-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x3584 : Shape := ⟨3, ![1, 4096, 3584]⟩
abbrev S1x16x3584 : Shape := ⟨3, ![1, 16, 3584]⟩
abbrev S1x16x9472 : Shape := ⟨3, ![1, 16, 9472]⟩
abbrev S1x4096 : Shape := ⟨2, ![1, 4096]⟩
abbrev S3584x9472 : Shape := ⟨2, ![3584, 9472]⟩
abbrev S9472 : Shape := ⟨1, ![9472]⟩
abbrev S_ : Shape := ⟨0, ![]⟩

class Facts : Prop where
  bitsLt_bf16_f32 : FTy.bits .bf16 < FTy.bits .f32
  bcast_S_S1x16x3584 : S_.BroadcastsInDim S1x16x3584 (![] : Fin 0 → Fin S1x16x3584.rank)
  reducesTo_S1x16x3584_S_d0_1_2 : S1x16x3584.ReducesTo [0, 1, 2] S_
  h_S_ : 0 < S_.numel

variable [Facts]

def fn {F : FTy → Type} [FloatOps F] (main_arg0 : FVec F S1x4096x3584 .bf16) (main_arg1 : FVec F S1x16x3584 .bf16) (main_arg2 : FVec F S1x16x3584 .bf16) (main_arg3 : FVec F S1x16x9472 .bf16) (main_arg4 : IVec S1x4096 32) (main_arg5 : FVec F S3584x9472 .fp8e4m3) (main_arg6 : FVec F S9472 .f32) (main_arg7 : FVec F S9472 .bf16) : IVec S_ 1 :=
  let main_v0 : FVec F S1x16x3584 .f32 := (extf .f32 · bitsLt_bf16_f32) main_arg1
  let main_v1 : FVec F S1x16x3584 .f32 := Host.absf main_v0
  let main_cst : FVec F S_ .f32 := constant S_ .f32 0x7F7F0000#32
  let main_v2 : FVec F S1x16x3584 .f32 := broadcastInDim S1x16x3584 ![] bcast_S_S1x16x3584 main_cst
  let main_v3 : IVec S1x16x3584 1 := cmpf .ole main_v1 main_v2
  let main_c : IVec S_ 1 := constantI S_ 1 1#1
  let main_v4 : IVec S_ 1 := (fun x v => Host.reduce IntOp.andi x v reducesTo_S1x16x3584_S_d0_1_2 h_S_) main_v3 main_c
  let main_v5 : FVec F S1x16x3584 .f32 := (extf .f32 · bitsLt_bf16_f32) main_arg2
  let main_v6 : FVec F S1x16x3584 .f32 := Host.absf main_v5
  let main_cst_0 : FVec F S_ .f32 := constant S_ .f32 0x7F7F0000#32
  let main_v7 : FVec F S1x16x3584 .f32 := broadcastInDim S1x16x3584 ![] bcast_S_S1x16x3584 main_cst_0
  let main_v8 : IVec S1x16x3584 1 := cmpf .ole main_v6 main_v7
  let main_c_1 : IVec S_ 1 := constantI S_ 1 1#1
  let main_v9 : IVec S_ 1 := (fun x v => Host.reduce IntOp.andi x v reducesTo_S1x16x3584_S_d0_1_2 h_S_) main_v8 main_c_1
  let main_v10 : IVec S_ 1 := andi main_v4 main_v9
  main_v10
-- ==== Kernel.lean ====
abbrev S1x4096x3584 : Shape := ⟨3, ![1, 4096, 3584]⟩
abbrev S1x16x3584 : Shape := ⟨3, ![1, 16, 3584]⟩
abbrev S1x16x9472 : Shape := ⟨3, ![1, 16, 9472]⟩
abbrev S1x4096 : Shape := ⟨2, ![1, 4096]⟩
abbrev S3584x9472 : Shape := ⟨2, ![3584, 9472]⟩
abbrev S9472 : Shape := ⟨1, ![9472]⟩
abbrev S4096x1 : Shape := ⟨2, ![4096, 1]⟩
abbrev S4096x3584 : Shape := ⟨2, ![4096, 3584]⟩
abbrev S16x3584 : Shape := ⟨2, ![16, 3584]⟩
abbrev S128x1 : Shape := ⟨2, ![128, 1]⟩
abbrev S128x3584 : Shape := ⟨2, ![128, 3584]⟩
abbrev S128 : Shape := ⟨1, ![128]⟩
abbrev S1x3584 : Shape := ⟨2, ![1, 3584]⟩
abbrev S1x9472 : Shape := ⟨2, ![1, 9472]⟩
abbrev S16x9472 : Shape := ⟨2, ![16, 9472]⟩
abbrev S4096x9472 : Shape := ⟨2, ![4096, 9472]⟩
abbrev S512x1 : Shape := ⟨2, ![512, 1]⟩
abbrev S512x3584 : Shape := ⟨2, ![512, 3584]⟩
abbrev S3584x256 : Shape := ⟨2, ![3584, 256]⟩
abbrev S1x256 : Shape := ⟨2, ![1, 256]⟩
abbrev S16x256 : Shape := ⟨2, ![16, 256]⟩
abbrev S512x256 : Shape := ⟨2, ![512, 256]⟩

abbrev nBuf : Space → Nat
  | .hbm => 18
  | .vmem => 26
  | .smem => 0
  | _ => 0

abbrev bufTy : (tb : Table) → Fin (tcTables nBuf tb) → BufTy
  | .hbm, ⟨0, _⟩ => ⟨S1x4096x3584, .bf16⟩
  | .hbm, ⟨1, _⟩ => ⟨S1x16x3584, .bf16⟩
  | .hbm, ⟨2, _⟩ => ⟨S1x16x3584, .bf16⟩
  | .hbm, ⟨3, _⟩ => ⟨S1x16x9472, .bf16⟩
  | .hbm, ⟨4, _⟩ => ⟨S1x4096, .i32⟩
  | .hbm, ⟨5, _⟩ => ⟨S3584x9472, .fp8e4m3⟩
  | .hbm, ⟨6, _⟩ => ⟨S9472, .f32⟩
  | .hbm, ⟨7, _⟩ => ⟨S9472, .bf16⟩
  | .hbm, ⟨8, _⟩ => ⟨S4096x1, .i32⟩
  | .hbm, ⟨9, _⟩ => ⟨S4096x3584, .bf16⟩
  | .hbm, ⟨10, _⟩ => ⟨S16x3584, .bf16⟩
  | .hbm, ⟨11, _⟩ => ⟨S16x3584, .bf16⟩
  | .hbm, ⟨12, _⟩ => ⟨S4096x3584, .fp8e4m3⟩
  | .hbm, ⟨13, _⟩ => ⟨S4096x1, .f32⟩
  | .hbm, ⟨14, _⟩ => ⟨S1x9472, .f32⟩
  | .hbm, ⟨15, _⟩ => ⟨S1x9472, .bf16⟩
  | .hbm, ⟨16, _⟩ => ⟨S16x9472, .bf16⟩
  | .hbm, ⟨17, _⟩ => ⟨S4096x9472, .bf16⟩
  | .local _ .vmem, ⟨0, _⟩ => ⟨S128x1, .i32⟩
  | .local _ .vmem, ⟨1, _⟩ => ⟨S128x1, .i32⟩
  | .local _ .vmem, ⟨2, _⟩ => ⟨S128x3584, .bf16⟩
  | .local _ .vmem, ⟨3, _⟩ => ⟨S128x3584, .bf16⟩
  | .local _ .vmem, ⟨4, _⟩ => ⟨S16x3584, .bf16⟩
  | .local _ .vmem, ⟨5, _⟩ => ⟨S16x3584, .bf16⟩
  | .local _ .vmem, ⟨6, _⟩ => ⟨S128x3584, .fp8e4m3⟩
  | .local _ .vmem, ⟨7, _⟩ => ⟨S128x3584, .fp8e4m3⟩
  | .local _ .vmem, ⟨8, _⟩ => ⟨S128x1, .f32⟩
  | .local _ .vmem, ⟨9, _⟩ => ⟨S128x1, .f32⟩
  | .local _ .vmem, ⟨10, _⟩ => ⟨S512x1, .i32⟩
  | .local _ .vmem, ⟨11, _⟩ => ⟨S512x1, .i32⟩
  | .local _ .vmem, ⟨12, _⟩ => ⟨S512x3584, .fp8e4m3⟩
  | .local _ .vmem, ⟨13, _⟩ => ⟨S512x3584, .fp8e4m3⟩
  | .local _ .vmem, ⟨14, _⟩ => ⟨S3584x256, .fp8e4m3⟩
  | .local _ .vmem, ⟨15, _⟩ => ⟨S3584x256, .fp8e4m3⟩
  | .local _ .vmem, ⟨16, _⟩ => ⟨S512x1, .f32⟩
  | .local _ .vmem, ⟨17, _⟩ => ⟨S512x1, .f32⟩
  | .local _ .vmem, ⟨18, _⟩ => ⟨S1x256, .f32⟩
  | .local _ .vmem, ⟨19, _⟩ => ⟨S1x256, .f32⟩
  | .local _ .vmem, ⟨20, _⟩ => ⟨S1x256, .bf16⟩
  | .local _ .vmem, ⟨21, _⟩ => ⟨S1x256, .bf16⟩
  | .local _ .vmem, ⟨22, _⟩ => ⟨S16x256, .bf16⟩
  | .local _ .vmem, ⟨23, _⟩ => ⟨S16x256, .bf16⟩
  | .local _ .vmem, ⟨24, _⟩ => ⟨S512x256, .bf16⟩
  | .local _ .vmem, ⟨25, _⟩ => ⟨S512x256, .bf16⟩
  | _, _ => ⟨S1x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 37], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x3584 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3584x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S16x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "inv_d" => some ((1 / 3584 : ℝ) : EReal)
  | _ => none
-- ==== ReferenceIdeal.lean ====
abbrev S1x4096x3584 : Shape := ⟨3, ![1, 4096, 3584]⟩
abbrev S1x16x3584 : Shape := ⟨3, ![1, 16, 3584]⟩
abbrev S1x16x9472 : Shape := ⟨3, ![1, 16, 9472]⟩
abbrev S1x4096 : Shape := ⟨2, ![1, 4096]⟩
abbrev S3584x9472 : Shape := ⟨2, ![3584, 9472]⟩
abbrev S9472 : Shape := ⟨1, ![9472]⟩
abbrev S4096x1 : Shape := ⟨2, ![4096, 1]⟩
abbrev S1x9472 : Shape := ⟨2, ![1, 9472]⟩
abbrev S4096x9472 : Shape := ⟨2, ![4096, 9472]⟩
abbrev S4096x3584 : Shape := ⟨2, ![4096, 3584]⟩
abbrev S4096 : Shape := ⟨1, ![4096]⟩
abbrev S16x3584 : Shape := ⟨2, ![16, 3584]⟩
abbrev S1x3584 : Shape := ⟨2, ![1, 3584]⟩
abbrev S16x9472 : Shape := ⟨2, ![16, 9472]⟩

abbrev nBuf : Space → Nat
  | .hbm => 14
  | .vmem => 11
  | .smem => 0
  | _ => 0

abbrev bufTy : (tb : Table) → Fin (tcTables nBuf tb) → BufTy
  | .hbm, ⟨0, _⟩ => ⟨S1x4096x3584, .bf16⟩
  | .hbm, ⟨1, _⟩ => ⟨S1x16x3584, .bf16⟩
  | .hbm, ⟨2, _⟩ => ⟨S1x16x3584, .bf16⟩
  | .hbm, ⟨3, _⟩ => ⟨S1x16x9472, .bf16⟩
  | .hbm, ⟨4, _⟩ => ⟨S1x4096, .i32⟩
  | .hbm, ⟨5, _⟩ => ⟨S3584x9472, .fp8e4m3⟩
  | .hbm, ⟨6, _⟩ => ⟨S9472, .f32⟩
  | .hbm, ⟨7, _⟩ => ⟨S9472, .bf16⟩
  | .hbm, ⟨8, _⟩ => ⟨S4096x1, .i32⟩
  | .hbm, ⟨9, _⟩ => ⟨S1x9472, .f32⟩
  | .hbm, ⟨10, _⟩ => ⟨S1x9472, .bf16⟩
  | .hbm, ⟨11, _⟩ => ⟨S4096x9472, .bf16⟩
  | .hbm, ⟨12, _⟩ => ⟨S4096x3584, .fp8e4m3⟩
  | .hbm, ⟨13, _⟩ => ⟨S4096x1, .f32⟩
  | .local _ .vmem, ⟨0, _⟩ => ⟨S1x4096x3584, .bf16⟩
  | .local _ .vmem, ⟨1, _⟩ => ⟨S1x16x3584, .bf16⟩
  | .local _ .vmem, ⟨2, _⟩ => ⟨S1x16x3584, .bf16⟩
  | .local _ .vmem, ⟨3, _⟩ => ⟨S1x16x9472, .bf16⟩
  | .local _ .vmem, ⟨4, _⟩ => ⟨S4096x1, .i32⟩
  | .local _ .vmem, ⟨5, _⟩ => ⟨S3584x9472, .fp8e4m3⟩
  | .local _ .vmem, ⟨6, _⟩ => ⟨S1x9472, .f32⟩
  | .local _ .vmem, ⟨7, _⟩ => ⟨S1x9472, .bf16⟩
  | .local _ .vmem, ⟨8, _⟩ => ⟨S4096x9472, .bf16⟩
  | .local _ .vmem, ⟨9, _⟩ => ⟨S4096x3584, .fp8e4m3⟩
  | .local _ .vmem, ⟨10, _⟩ => ⟨S4096x1, .f32⟩
  | _, _ => ⟨S1x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16x9472 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x9472 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x9472 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x9472 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x9472 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
/-
  THE MATHEMATICS OF BOTH PROGRAMS, one row at a time, on extended reals: the layer norm with the row's modulation, the
  quantiser's exponent as the kernel finds it (a search over the powers of two a float's exponent field can name) and as
  the reference states it (`floor (log v / log 2) + 1`), the codes, and the dequantised product. The modules `BlockQ`,
  `BlockM` and `RefRow` read the printed programs as these functions; `Exponent` and `Bound` prove the two exponents equal.
-/
module

public import Idealize.ShloMosaic.Lib.Pointwise

@[expose] public section

noncomputable section

namespace Cert.Spec

open Idealize.ShloMosaic

/-- A row of the activations, or of a modulation table. -/
abbrev Row := Fin 3584 → EReal

/-! ## Which row of a table a condition word selects -/

/-- The condition word clipped to 0 … 15. -/
def clip (w : BitVec 32) : BitVec 32 := IntOp.minsi (15#32) (IntOp.maxsi (0#32) w)

theorem clip_lt (w : BitVec 32) : (clip w).toNat < 16 := by
  unfold clip IntOp.minsi IntOp.maxsi
  have hw := BitVec.toInt_eq_toNat_cond w
  have hl := w.isLt
  simp only [BitVec.slt]
  split at hw <;> split <;> split <;> simp_all <;> omega

/-- The table row the condition word selects. -/
def row (w : BitVec 32) : Fin 16 := ⟨(clip w).toNat, clip_lt w⟩

/-! ## The normalised and modulated row -/

/-- `1 / 3584`, the reciprocal of the row's length. -/
def kap : EReal := ((1 / 3584 : ℝ) : EReal)

/-- The row less its mean. -/
def centred (x : Row) : Row := fun k => x k - (∑ j, x j) * kap

/-- The layer norm of the row. -/
def norm (x : Row) : Row := fun k =>
  centred x k * Ideal.rsqrt ((∑ j, centred x j * centred x j) * kap + Ideal.ofBits .f32 (0x358637BD#32))

/-- The modulated row: `norm · (1 + scale) + shift`. -/
def hidden (x sc sh : Row) : Row := fun k => norm x k * (1 + sc k) + sh k

/-- The row's greatest magnitude times the f32 constant `1 / 448`. -/
def peak (h : Row) : EReal :=
  Finset.univ.fold max (Ideal.ofBits .f32 (0xFF800000#32)) (fun k => max (h k) (-h k)) * Ideal.ofBits .f32 (0x3B124925#32)

/-! ## The kernel's exponent -/

/-- The float whose exponent field is `w` and whose other bits are zero. -/
def power (w : BitVec 32) : EReal := Ideal.ofBits .f32 (IntOp.shli .vector w (23#32))

/-- One step of the search for the exponent field: the bit is set unless `v` is below the power it makes. -/
def step (v : EReal) (w bit : BitVec 32) : BitVec 32 := if v < power (IntOp.addi w bit) then w else IntOp.addi w bit

/-- The exponent field of `v`, bit by bit from the top. -/
def field (v : EReal) : BitVec 32 :=
  step v (step v (step v (step v (step v (step v (step v (step v 0#32 128#32) 64#32) 32#32) 16#32) 8#32) 4#32) 2#32) 1#32

/-- The kernel's exponent word. -/
def kexp (v : EReal) : BitVec 32 :=
  Scalar.select (IntOp.cmpi .eq (field v) 0#32) 0#32 (IntOp.subi (field v) 126#32)

/-- The kernel's scale of a row. -/
def kscale (v : EReal) : EReal := power (IntOp.addi 127#32 (kexp v))

/-- The factor by which the kernel scales a row's entries. -/
def kinv (v : EReal) : EReal := power (IntOp.subi 127#32 (kexp v))

/-! ## The reference's exponent -/

/-- The reference's exponent: 0 below the smallest normal f32 number, else `floor (log v / log 2) + 1`. -/
def rexp (v : EReal) : EReal :=
  if v < Ideal.ofBits .f32 (0x00800000#32) then 0
  else Ideal.liftRound Int.floor (Ideal.div (Ideal.log v) (Ideal.log (Ideal.ofBits .f32 (0x40000000#32)))) + 1

/-- The reference's scale of a row. -/
def rscale (v : EReal) : EReal := Ideal.exp2 (rexp v)

/-- The factor by which the reference scales a row's entries. -/
def rinv (v : EReal) : EReal := Ideal.exp2 (0 - rexp v)

/-! ## Codes and result -/

/-- An entry scaled and clipped to ±448. -/
def code (h inv : EReal) : EReal :=
  min (Ideal.ofBits .f32 (0x43E00000#32)) (max (Ideal.ofBits .f32 (0xC3E00000#32)) (h * inv))

/-- An entry of the result: the product with the weights, dequantised, biased and gated. -/
def out (codes w : Row) (hs ws b g : EReal) : EReal := ((∑ k, codes k * w k) * hs * ws + b) * g

end Cert.Spec

end
-- ==== Proof.Select.lean ====
/-
  PICKING ONE OF SIXTEEN TABLE ENTRIES by a clipped condition word: the kernel's chain of fifteen selects and the
  reference's tree of selects on the word's four bits both give the entry the word names.
-/
module

public import proofs.«01_k».proof.Proof.Spec

@[expose] public section

noncomputable section

namespace Cert.Spec

open Idealize.ShloMosaic

/-- The kernel's chain: start from entry 0 and overwrite by entry `k` where the word is `k`. -/
theorem chain (T : Fin 16 → EReal) (c : BitVec 32) (hc : c.toNat < 16) :
    Scalar.select (IntOp.cmpi .eq c 15#32) (T 15) (Scalar.select (IntOp.cmpi .eq c 14#32) (T 14)
      (Scalar.select (IntOp.cmpi .eq c 13#32) (T 13) (Scalar.select (IntOp.cmpi .eq c 12#32) (T 12)
      (Scalar.select (IntOp.cmpi .eq c 11#32) (T 11) (Scalar.select (IntOp.cmpi .eq c 10#32) (T 10)
      (Scalar.select (IntOp.cmpi .eq c 9#32) (T 9) (Scalar.select (IntOp.cmpi .eq c 8#32) (T 8)
      (Scalar.select (IntOp.cmpi .eq c 7#32) (T 7) (Scalar.select (IntOp.cmpi .eq c 6#32) (T 6)
      (Scalar.select (IntOp.cmpi .eq c 5#32) (T 5) (Scalar.select (IntOp.cmpi .eq c 4#32) (T 4)
      (Scalar.select (IntOp.cmpi .eq c 3#32) (T 3) (Scalar.select (IntOp.cmpi .eq c 2#32) (T 2)
      (Scalar.select (IntOp.cmpi .eq c 1#32) (T 1) (T 0)))))))))))))))
    = T ⟨c.toNat, hc⟩ := by
  revert hc
  suffices h : ∀ n < 16, c = BitVec.ofNat 32 n → ∀ hc : c.toNat < 16, _ = T ⟨c.toNat, hc⟩ from
    fun hc => h c.toNat hc (by rw [BitVec.ofNat_toNat, BitVec.setWidth_eq]) hc
  intro n hn e hc
  subst e
  interval_cases n <;> rfl

/-- Bit `b` of the word. -/
def bit (c b : BitVec 32) : BitVec 1 := IntOp.cmpi .eq (IntOp.andi (IntOp.shrsi .vector c b) 1#32) 1#32

/-- One level of the reference's tree. -/
def fork (c b : BitVec 32) (lo hi : EReal) : EReal := Scalar.select (bit c b) hi lo

/-- The reference's tree: the bits from the lowest halve the table's entries. -/
theorem tree (T : Fin 16 → EReal) (c : BitVec 32) (hc : c.toNat < 16) :
    fork c 3#32
      (fork c 2#32 (fork c 1#32 (fork c 0#32 (T 0) (T 1)) (fork c 0#32 (T 2) (T 3)))
        (fork c 1#32 (fork c 0#32 (T 4) (T 5)) (fork c 0#32 (T 6) (T 7))))
      (fork c 2#32 (fork c 1#32 (fork c 0#32 (T 8) (T 9)) (fork c 0#32 (T 10) (T 11)))
        (fork c 1#32 (fork c 0#32 (T 12) (T 13)) (fork c 0#32 (T 14) (T 15))))
    = T ⟨c.toNat, hc⟩ := by
  revert hc
  suffices h : ∀ n < 16, c = BitVec.ofNat 32 n → ∀ hc : c.toNat < 16, _ = T ⟨c.toNat, hc⟩ from
    fun hc => h c.toNat hc (by rw [BitVec.ofNat_toNat, BitVec.setWidth_eq]) hc
  intro n hn e hc
  subst e
  interval_cases n <;> rfl

end Cert.Spec

end
-- ==== Proof.BlockQ.lean ====
/-
  ONE BLOCK OF THE NORM-AND-QUANTISE CALL: at row `i` of the block the stored codes are the codes of the row's modulated
  layer norm and the stored scale is the power of two the search finds for the row's peak.
-/
module

public import proofs.«01_k».proof.Proof.Gen.KernelIdeal.Frame
public import proofs.«01_k».proof.Proof.Select
public import Idealize.ShloMosaic.Lib.Pointwise

@[expose] public section

set_option maxRecDepth 16384
set_option maxHeartbeats 2000000

noncomputable section

namespace Cert.KernelIdeal.Block

open Idealize.ShloMosaic Idealize.ShloMosaic.TcCoe Idealize.SL.Sem
open Cert.KernelIdeal Cert.KernelIdeal.Gen

/-- The named constant is `1 / 3584`. -/
theorem inv_d : (Named.named κ "inv_d" (0x39924925#32) : Ideal .f32) = Spec.kap :=
  IdealRules.named_const.ideal_named_scalar _ _ _ _ rfl

theorem hz : (![0, 0] : Fin 2 → Nat) = fun _ => 0 := funext fun a => by fin_cases a <;> rfl

variable (x0 : Vec Ideal S128x1 .i32) (x1 : Vec Ideal S128x3584 .bf16) (x2 x3 : Vec Ideal S16x3584 .bf16)

/-- The clipped condition words. -/
theorem clip_at (i : Fin 128) : k0_pay25 x0 x1 x2 x3 (ix2 i 0) = Spec.clip (x0 (ix2 i 0)) := by
  pointwise [k0_pay25, k0_pay1]
  rfl

/-- The layer norm. -/
theorem norm_at (i : Fin 128) (k : Fin 3584) (v : Vec Ideal S128x3584 .bf16) :
    k0_pay2 v (ix2 i k) = Spec.norm (fun j => v (ix2 i j)) k := by
  pointwise [k0_pay2]
  rw [inv_d]
  rfl

/-- The normalised row times one plus the selected scale row. -/
theorem scaled_at (i : Fin 128) (k : Fin 3584) :
    k0_pay26 x0 x1 x2 x3 (ix2 i k)
      = Spec.norm (fun j => x1 (ix2 i j)) k * (1 + x3 (ix2 (Spec.row (x0 (ix2 i 0))) k)) := by
  have h := Spec.chain (fun a => x3 (ix2 a k)) _ (Spec.clip_lt (x0 (ix2 i 0)))
  pointwise [k0_pay26, k0_pay11, k0_pay10, k0_pay9, k0_pay8, k0_pay7, k0_pay6, k0_pay5, k0_pay4, k0_pay3, k0_pay1]
  rw [View.ld_unit_zero hz, norm_at, clip_at]
  exact congrArg (fun t : EReal => Spec.norm (fun j => x1 (ix2 i j)) k * (1 + t)) h

/-- The modulated row: the selected shift row added. -/
theorem hidden_at (i : Fin 128) (k : Fin 3584) :
    k0_pay18 (k0_pay25 x0 x1 x2 x3) (k0_pay26 x0 x1 x2 x3) (k0_pay27 x0 x1 x2 x3) 14#32 (View.ld x2 r0_16) (View.ld x2 r0_17)
        (ix2 i k)
      = Spec.hidden (fun j => x1 (ix2 i j)) (fun j => x3 (ix2 (Spec.row (x0 (ix2 i 0))) j))
          (fun j => x2 (ix2 (Spec.row (x0 (ix2 i 0))) j)) k := by
  have h := Spec.chain (fun a => x2 (ix2 a k)) _ (Spec.clip_lt (x0 (ix2 i 0)))
  pointwise [k0_pay18, k0_pay27, k0_pay17, k0_pay15, k0_pay12, k0_pay13, k0_pay14, k0_pay16]
  rw [scaled_at, clip_at]
  exact congrArg (_ + ·) h

/-- The row's peak. -/
theorem peak_at (i : Fin 128) :
    k0_pay28 x0 x1 x2 x3 (ix2 i 0)
      = Spec.peak (Spec.hidden (fun j => x1 (ix2 i j)) (fun j => x3 (ix2 (Spec.row (x0 (ix2 i 0))) j))
          (fun j => x2 (ix2 (Spec.row (x0 (ix2 i 0))) j))) := by
  pointwise [k0_pay28, k0_pay19]
  simp only [hidden_at, Ideal.absf_def]
  rfl

/-- The search's first two bits, -/
theorem high_at (a : IVec S128x1 32) (b c : FVec Ideal S128x3584 .f32) (w : BitVec 32) (d e : Vec Ideal S1x3584 .bf16) (i : Fin 128) :
    k0_pay20 a b c w d e (ix2 i 0)
      = Spec.step (k0_pay19 a b c w d e (ix2 i 0)) (Spec.step (k0_pay19 a b c w d e (ix2 i 0)) 0#32 128#32) 64#32 := by
  pointwise [k0_pay20]
  rfl

/-- the next five, -/
theorem low_at (v : FVec Ideal S128x1 .f32) (w : IVec S128x1 32) (i : Fin 128) :
    k0_pay21 v w 32#32 (ix2 i 0)
      = Spec.step (v (ix2 i 0)) (Spec.step (v (ix2 i 0)) (Spec.step (v (ix2 i 0)) (Spec.step (v (ix2 i 0))
          (Spec.step (v (ix2 i 0)) (w (ix2 i 0)) 32#32) 16#32) 8#32) 4#32) 2#32 := by
  pointwise [k0_pay21]
  rfl

/-- and the last, with the exponent read off the field found. -/
theorem last_at (v : FVec Ideal S128x1 .f32) (w : IVec S128x1 32) (i : Fin 128) :
    k0_pay22 v w 1#32 (ix2 i 0)
      = Scalar.select (IntOp.cmpi .eq (Spec.step (v (ix2 i 0)) (w (ix2 i 0)) 1#32) 0#32) 0#32
          (IntOp.subi (Spec.step (v (ix2 i 0)) (w (ix2 i 0)) 1#32) 126#32) := by
  pointwise [k0_pay22]
  rfl

/-- So the exponent is the kernel's exponent of the row's peak. -/
theorem field_at (i : Fin 128) :
    k0_pay22 (k0_pay28 x0 x1 x2 x3) (k0_pay29 x0 x1 x2 x3) 1#32 (ix2 i 0) = Spec.kexp (k0_pay28 x0 x1 x2 x3 (ix2 i 0)) := by
  rw [last_at, k0_pay29, low_at, high_at]
  rfl

/-- The block's codes. -/
theorem codes_at (i : Fin 128) (k : Fin 3584) :
    out0_4 x0 x1 x2 x3 (ix2 i k)
      = Spec.code (Spec.hidden (fun j => x1 (ix2 i j)) (fun j => x3 (ix2 (Spec.row (x0 (ix2 i 0))) j))
          (fun j => x2 (ix2 (Spec.row (x0 (ix2 i 0))) j)) k)
        (Spec.kinv (Spec.peak (Spec.hidden (fun j => x1 (ix2 i j)) (fun j => x3 (ix2 (Spec.row (x0 (ix2 i 0))) j))
          (fun j => x2 (ix2 (Spec.row (x0 (ix2 i 0))) j))))) := by
  unfold out0_4
  rw [View.canon_unit_zero hz]
  pointwise [k0_pay24]
  rw [hidden_at, field_at, peak_at]
  rfl

/-- The block's scales. -/
theorem scales_at (i : Fin 128) :
    out0_5 x0 x1 x2 x3 (ix2 i 0)
      = Spec.kscale (Spec.peak (Spec.hidden (fun j => x1 (ix2 i j)) (fun j => x3 (ix2 (Spec.row (x0 (ix2 i 0))) j))
          (fun j => x2 (ix2 (Spec.row (x0 (ix2 i 0))) j)))) := by
  unfold out0_5
  rw [View.canon_unit_zero hz]
  pointwise [k0_pay23]
  rw [field_at, peak_at]
  rfl

end Cert.KernelIdeal.Block

end
-- ==== Proof.KernelQ.lean ====
module

public import proofs.«01_k».proof.Proof.Gen.KernelIdeal.Frame
public import proofs.«01_k».proof.Proof.BlockQ
public import Idealize.ShloMosaic.Lib.Pipeline.Value
public import Idealize.ShloMosaic.Lib.Pipeline.ValueKit
public import Idealize.ShloMosaic.Lib.Claim

/-! The quantising call's two result arrays, entry by entry, as functions of the kernel's arguments. -/

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Point `t` takes the `t`-th block of 128 rows, and the whole tables. -/
theorem idx0 (t : Fin cfg0.N) :
    win0_0.index t = ![t.val, 0] ∧ win0_1.index t = ![t.val, 0] ∧ win0_2.index t = ![0, 0] ∧ win0_3.index t = ![0, 0] ∧
    win0_4.index t = ![t.val, 0] ∧ win0_5.index t = ![t.val, 0] := by
  revert t; decide +kernel

/-- The array row of row `i` of point `t`'s block. -/
def row0 (t : Fin cfg0.N) (i : Fin 128) : Fin 4096 :=
  ⟨t.val * 128 + i.val, by have := t.isLt; have h : cfg0.N = 32 := by decide
                           omega⟩

theorem ids_at (c : Dev nD) (t : Fin cfg0.N) (i : Fin 128) :
    iblk0 (V1 m ρ) c 0 t (ix2 i 0) = m ((c : Thread nD τ).loc main_arg4) (ix2 0 (row0 t i)) := by
  have h : iblk0 (V1 m ρ) c 0 t (ix2 i 0) = StableHlo.after hostOps0 (W0 m ρ c) main_v0 (ix2 (row0 t i) 0) := by
    blk_ext [iblk0, idx0 t, row0]
  rw [h]
  entry_read
  pointwise

theorem x_at (c : Dev nD) (t : Fin cfg0.N) (i : Fin 128) (k : Fin 3584) :
    iblk0 (V1 m ρ) c 1 t (ix2 i k) = m ((c : Thread nD τ).loc main_arg0) (ix3 0 (row0 t i) k) := by
  have h : iblk0 (V1 m ρ) c 1 t (ix2 i k) = StableHlo.after hostOps0 (W0 m ρ c) main_v1 (ix2 (row0 t i) k) := by
    blk_ext [iblk0, idx0 t, row0]
  rw [h]
  entry_read
  pointwise

theorem shift_at (c : Dev nD) (t : Fin cfg0.N) (i : Fin 16) (k : Fin 3584) :
    iblk0 (V1 m ρ) c 2 t (ix2 i k) = m ((c : Thread nD τ).loc main_arg1) (ix3 0 i k) := by
  have h : iblk0 (V1 m ρ) c 2 t (ix2 i k) = StableHlo.after hostOps0 (W0 m ρ c) main_v2 (ix2 i k) := by
    blk_ext [iblk0, idx0 t]
  rw [h]
  entry_read
  pointwise

theorem scale_at (c : Dev nD) (t : Fin cfg0.N) (i : Fin 16) (k : Fin 3584) :
    iblk0 (V1 m ρ) c 3 t (ix2 i k) = m ((c : Thread nD τ).loc main_arg2) (ix3 0 i k) := by
  have h : iblk0 (V1 m ρ) c 3 t (ix2 i k) = StableHlo.after hostOps0 (W0 m ρ c) main_v3 (ix2 i k) := by
    blk_ext [iblk0, idx0 t]
  rw [h]
  entry_read
  pointwise

/-- The hidden row `i`, before quantisation, of the arguments. -/
def hid (c : Dev nD) (i : Fin 4096) : Spec.Row :=
  Spec.hidden (fun j => m ((c : Thread nD τ).loc main_arg0) (ix3 0 i j))
    (fun j => m ((c : Thread nD τ).loc main_arg2) (ix3 0 (Spec.row (m ((c : Thread nD τ).loc main_arg4) (ix2 0 i))) j))
    (fun j => m ((c : Thread nD τ).loc main_arg1) (ix3 0 (Spec.row (m ((c : Thread nD τ).loc main_arg4) (ix2 0 i))) j))

/-- The scale of row `i`. -/
def scaleOf (c : Dev nD) (i : Fin 4096) : EReal := Spec.kscale (Spec.peak (hid m c i))

/-- The code at row `i`, column `k`. -/
def codeOf (c : Dev nD) (i : Fin 4096) (k : Fin 3584) : EReal :=
  Spec.code (hid m c i k) (Spec.kinv (Spec.peak (hid m c i)))

/-- The column of scales. -/
def scalesK (c : Dev nD) : S4096x1.Idx → EReal := fun z => scaleOf m c (z 0)

/-- The matrix of codes. -/
def codesK (c : Dev nD) : S4096x3584.Idx → EReal := fun z => codeOf m c (z 0) (z 1)

theorem scales_blk (c : Dev nD) (t : Fin cfg0.N) (i : Fin 128) :
    out0_5 (iblk0 (V1 m ρ) c 0 t) (iblk0 (V1 m ρ) c 1 t) (iblk0 (V1 m ρ) c 2 t) (iblk0 (V1 m ρ) c 3 t) (ix2 i 0) =
      scalesK m c (ix2 (row0 t i) 0) := by
  rw [Block.scales_at]
  simp only [x_at, shift_at, scale_at, ids_at]
  rfl

theorem codes_blk (c : Dev nD) (t : Fin cfg0.N) (i : Fin 128) (k : Fin 3584) :
    out0_4 (iblk0 (V1 m ρ) c 0 t) (iblk0 (V1 m ρ) c 1 t) (iblk0 (V1 m ρ) c 2 t) (iblk0 (V1 m ρ) c 3 t) (ix2 i k) =
      codesK m c (ix2 (row0 t i) k) := by
  rw [Block.codes_at]
  simp only [x_at, shift_at, scale_at, ids_at]
  rfl

theorem scales_arr (c : Dev nD) : (dat0 (V1 m ρ) c).arrAt 5 cfg0.N = scalesK m c := by
  refine (dat0 (V1 m ρ) c).arrAt_eq_of_covers 5 _ (by decide +kernel) fun t hf y => ?_
  blk_simp
  rw [after0_5]
  obtain ⟨a, b, rfl⟩ : ∃ (a : Fin 128) (b : Fin 1), y = ix2 a b := ⟨y 0, y 1, eq_ix2 y⟩
  obtain rfl : b = 0 := Subsingleton.elim _ _
  refine (scales_blk m ρ c t a).trans ?_
  blk_ext [idx0 t, row0]

theorem codes_arr (c : Dev nD) : (dat0 (V1 m ρ) c).arrAt 4 cfg0.N = codesK m c := by
  refine (dat0 (V1 m ρ) c).arrAt_eq_of_covers 4 _ (by decide +kernel) fun t hf y => ?_
  blk_simp
  rw [after0_4]
  obtain ⟨a, b, rfl⟩ : ∃ (a : Fin 128) (b : Fin 3584), y = ix2 a b := ⟨y 0, y 1, eq_ix2 y⟩
  refine (codes_blk m ρ c t a b).trans ?_
  blk_ext [idx0 t, row0]

end Cert.KernelIdeal.Array

end
-- ==== Proof.BlockM.lean ====
/-
  ONE BLOCK OF THE PRODUCT CALL: the entry at row `i` and column `k` of the block is the codes' row times the weights'
  column, dequantised by the two scales, biased and gated by the gate row the row's condition word selects.
-/
module

public import proofs.«01_k».proof.Proof.Gen.KernelIdeal.Frame
public import proofs.«01_k».proof.Proof.Select
public import Idealize.ShloMosaic.Lib.Pointwise

@[expose] public section

set_option maxRecDepth 16384
set_option maxHeartbeats 2000000

noncomputable section

namespace Cert.KernelIdeal.Product

open Idealize.ShloMosaic Idealize.ShloMosaic.TcCoe Idealize.SL.Sem
open Cert.KernelIdeal Cert.KernelIdeal.Gen

theorem hz : (![0, 0] : Fin 2 → Nat) = fun _ => 0 := funext fun a => by fin_cases a <;> rfl

variable (x0 : Vec Ideal S512x1 .i32) (x1 : Vec Ideal S512x3584 .fp8e4m3) (x2 : Vec Ideal S3584x256 .fp8e4m3)
  (x3 : Vec Ideal S512x1 .f32) (x4 : Vec Ideal S1x256 .f32) (x5 : Vec Ideal S1x256 .bf16) (x6 : Vec Ideal S16x256 .bf16)

/-- The clipped condition words. -/
theorem clip_at (v : Vec Ideal S512x1 .i32) (i : Fin 512) : k1_pay2 v (ix2 i 0) = Spec.clip (v (ix2 i 0)) := by
  pointwise [k1_pay2]
  rfl

/-- The selected gate row. -/
theorem gate_at (i : Fin 512) (k : Fin 256) :
    k1_pay10 (k1_pay13 x0 x1 x2 x3 x4 x5 x6) (k1_pay7 (k1_pay13 x0 x1 x2 x3 x4 x5 x6) (k1_pay6 (k1_pay13 x0 x1 x2 x3 x4 x5 x6)
        (k1_pay4 (View.ld x0 r1_0) (View.ld x6 r1_3) (View.ld x6 r1_4) (View.ld x6 r1_5)) (k1_pay5 (View.ld x0 r1_0))
        (View.ld x6 r1_6) (View.ld x6 r1_7) (View.ld x6 r1_8) (View.ld x6 r1_9) (View.ld x6 r1_10)) 8#32 (View.ld x6 r1_11)
        (View.ld x6 r1_12) (View.ld x6 r1_13) (View.ld x6 r1_14)) (k1_pay8 (View.ld x6 r1_15))
        (k1_pay9 (k1_pay13 x0 x1 x2 x3 x4 x5 x6)) (View.ld x6 r1_16) (View.ld x6 r1_17) (View.ld x6 r1_18) (ix2 i k)
      = x6 (ix2 (Spec.row (x0 (ix2 i 0))) k) := by
  have h := Spec.chain (fun a => x6 (ix2 a k)) _ (Spec.clip_lt (x0 (ix2 i 0)))
  unfold k1_pay13
  rw [View.ld_unit_zero hz]
  pointwise [k1_pay10, k1_pay9, k1_pay8, k1_pay7, k1_pay6, k1_pay5, k1_pay4]
  rw [clip_at]
  exact h

/-- The contraction. -/
theorem dot_at (a : Vec Ideal S512x3584 .fp8e4m3) (b : Vec Ideal S3584x256 .fp8e4m3) (i : Fin 512) (k : Fin 256) :
    k1_pay3 a b (ix2 i k) = ∑ j : Fin 3584, a (ix2 i j) * b (ix2 j k) := by
  pointwise [k1_pay3]

/-- The block's entries. -/
theorem out_at (i : Fin 512) (k : Fin 256) :
    out1_7 x0 x1 x2 x3 x4 x5 x6 (ix2 i k)
      = Spec.out (fun j => x1 (ix2 i j)) (fun j => x2 (ix2 j k)) (x3 (ix2 i 0)) (x4 (ix2 0 k)) (x5 (ix2 0 k))
          (x6 (ix2 (Spec.row (x0 (ix2 i 0))) k)) := by
  unfold out1_7
  rw [View.canon_unit_zero hz]
  pointwise [k1_pay1, k1_pay11, k1_pay12]
  rw [gate_at, dot_at]
  rw [View.ld_unit_zero hz, View.ld_unit_zero hz]
  rfl

end Cert.KernelIdeal.Product

end
-- ==== Proof.KernelM.lean ====
module

public import proofs.«01_k».proof.Proof.KernelQ
public import proofs.«01_k».proof.Proof.BlockM

/-! The product call's result array, entry by entry, as a function of the kernel's arguments. -/

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Point `t` takes block `t / 37` of 512 rows and block `t % 37` of 256 columns. -/
theorem idx1 (t : Fin cfg1.N) :
    win1_0.index t = ![t.val / 37, 0] ∧ win1_1.index t = ![t.val / 37, 0] ∧ win1_2.index t = ![0, t.val % 37] ∧
    win1_3.index t = ![t.val / 37, 0] ∧ win1_4.index t = ![0, t.val % 37] ∧ win1_5.index t = ![0, t.val % 37] ∧
    win1_6.index t = ![0, t.val % 37] ∧ win1_7.index t = ![t.val / 37, t.val % 37] := by
  revert t; decide +kernel

theorem N1 : cfg1.N = 296 := by decide

/-- The array row of row `i` of point `t`'s block. -/
def row1 (t : Fin cfg1.N) (i : Fin 512) : Fin 4096 :=
  ⟨t.val / 37 * 512 + i.val, by have := t.isLt; have h := N1; omega⟩

/-- The array column of column `k` of point `t`'s block. -/
def col1 (t : Fin cfg1.N) (k : Fin 256) : Fin 9472 :=
  ⟨t.val % 37 * 256 + k.val, by have := t.isLt; have h := N1; omega⟩

/-! ## What the product call reads -/

theorem ids_entry (c : Dev nD) : W3 m ρ c main_v0 = StableHlo.after hostOps0 (W0 m ρ c) main_v0 :=
  (W3_of m ρ c main_v0 (by decide)).trans (W2_of m ρ c main_v0 (by decide))

theorem codes_entry (c : Dev nD) : W3 m ρ c main_v4_0 = codesK m c :=
  (W3_of m ρ c main_v4_0 (by decide)).trans ((W2_arr m ρ c 4).trans (codes_arr m ρ c))

theorem scales_entry (c : Dev nD) : W3 m ρ c main_v4_1 = scalesK m c :=
  (W3_of m ρ c main_v4_1 (by decide)).trans ((W2_arr m ρ c 5).trans (scales_arr m ρ c))

theorem ids_at1 (c : Dev nD) (t : Fin cfg1.N) (i : Fin 512) :
    iblk1 (V3 m ρ) c 0 t (ix2 i 0) = m ((c : Thread nD τ).loc main_arg4) (ix2 0 (row1 t i)) := by
  have h : iblk1 (V3 m ρ) c 0 t (ix2 i 0) = W3 m ρ c main_v0 (ix2 (row1 t i) 0) := by
    blk_ext [iblk1, idx1 t, row1]
  rw [h, ids_entry]
  entry_read
  pointwise

theorem codes_at1 (c : Dev nD) (t : Fin cfg1.N) (i : Fin 512) (k : Fin 3584) :
    iblk1 (V3 m ρ) c 1 t (ix2 i k) = codeOf m c (row1 t i) k := by
  have h : iblk1 (V3 m ρ) c 1 t (ix2 i k) = W3 m ρ c main_v4_0 (ix2 (row1 t i) k) := by
    blk_ext [iblk1, idx1 t, row1]
  rw [h, codes_entry]
  rfl

theorem w_at1 (c : Dev nD) (t : Fin cfg1.N) (i : Fin 3584) (k : Fin 256) :
    iblk1 (V3 m ρ) c 2 t (ix2 i k) = m ((c : Thread nD τ).loc main_arg5) (ix2 i (col1 t k)) := by
  have h : iblk1 (V3 m ρ) c 2 t (ix2 i k) = W3 m ρ c main_arg5 (ix2 i (col1 t k)) := by
    blk_ext [iblk1, idx1 t, col1]
  rw [h, W3_args m ρ c main_arg5 (by decide)]

theorem scales_at1 (c : Dev nD) (t : Fin cfg1.N) (i : Fin 512) :
    iblk1 (V3 m ρ) c 3 t (ix2 i 0) = scaleOf m c (row1 t i) := by
  have h : iblk1 (V3 m ρ) c 3 t (ix2 i 0) = W3 m ρ c main_v4_1 (ix2 (row1 t i) 0) := by
    blk_ext [iblk1, idx1 t, row1]
  rw [h, scales_entry]
  rfl

theorem ws_at1 (c : Dev nD) (t : Fin cfg1.N) (k : Fin 256) :
    iblk1 (V3 m ρ) c 4 t (ix2 0 k) = m ((c : Thread nD τ).loc main_arg6) (ix1 (col1 t k)) := by
  have h : iblk1 (V3 m ρ) c 4 t (ix2 0 k) = StableHlo.after hostOps1 (W2 m ρ c) main_v5 (ix2 0 (col1 t k)) := by
    blk_ext [iblk1, idx1 t, col1]
  rw [h]
  entry_read
  rw [W2_args m ρ c main_arg6 (by decide)]
  pointwise

theorem bias_at1 (c : Dev nD) (t : Fin cfg1.N) (k : Fin 256) :
    iblk1 (V3 m ρ) c 5 t (ix2 0 k) = m ((c : Thread nD τ).loc main_arg7) (ix1 (col1 t k)) := by
  have h : iblk1 (V3 m ρ) c 5 t (ix2 0 k) = StableHlo.after hostOps1 (W2 m ρ c) main_v6 (ix2 0 (col1 t k)) := by
    blk_ext [iblk1, idx1 t, col1]
  rw [h]
  entry_read
  rw [W2_args m ρ c main_arg7 (by decide)]
  pointwise

theorem gate_at1 (c : Dev nD) (t : Fin cfg1.N) (i : Fin 16) (k : Fin 256) :
    iblk1 (V3 m ρ) c 6 t (ix2 i k) = m ((c : Thread nD τ).loc main_arg3) (ix3 0 i (col1 t k)) := by
  have h : iblk1 (V3 m ρ) c 6 t (ix2 i k) = StableHlo.after hostOps1 (W2 m ρ c) main_v7 (ix2 i (col1 t k)) := by
    blk_ext [iblk1, idx1 t, col1]
  rw [h]
  entry_read
  rw [W2_args m ρ c main_arg3 (by decide)]
  pointwise

/-! ## What it leaves -/

/-- The product's entry at row `i`, column `k`. -/
def outOf (c : Dev nD) (i : Fin 4096) (k : Fin 9472) : EReal :=
  Spec.out (codeOf m c i) (fun j => m ((c : Thread nD τ).loc main_arg5) (ix2 j k)) (scaleOf m c i)
    (m ((c : Thread nD τ).loc main_arg6) (ix1 k)) (m ((c : Thread nD τ).loc main_arg7) (ix1 k))
    (m ((c : Thread nD τ).loc main_arg3) (ix3 0 (Spec.row (m ((c : Thread nD τ).loc main_arg4) (ix2 0 i))) k))

/-- The matrix of results. -/
def outK (c : Dev nD) : S4096x9472.Idx → EReal := fun z => outOf m c (z 0) (z 1)

theorem out_blk (c : Dev nD) (t : Fin cfg1.N) (i : Fin 512) (k : Fin 256) :
    out1_7 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) (ix2 i k) =
      outK m c (ix2 (row1 t i) (col1 t k)) := by
  rw [Product.out_at]
  simp only [ids_at1, codes_at1, w_at1, scales_at1, ws_at1, bias_at1, gate_at1]
  rfl

theorem out_arr (c : Dev nD) : (dat1 (V3 m ρ) c).arrAt 7 cfg1.N = outK m c := by
  refine (dat1 (V3 m ρ) c).arrAt_eq_of_covers 7 _ (by decide +kernel) fun t hf y => ?_
  blk_simp
  rw [after1_7]
  obtain ⟨a, b, rfl⟩ : ∃ (a : Fin 512) (b : Fin 256), y = ix2 a b := ⟨y 0, y 1, eq_ix2 y⟩
  refine (out_blk m ρ c t a b).trans ?_
  blk_ext [idx1 t, row1, col1]

end Cert.KernelIdeal.Array

end
-- ==== Proof.KernelRun.lean ====
module

public import proofs.«01_k».proof.Proof.KernelM
public import Idealize.ShloMosaic.Adequacy
public import Idealize.ShloMosaic.Init

/-! The kernel's run with its three results named: the generated frame's launch, read at the result buffers as well. -/

@[expose] public section

set_option maxRecDepth 16384

noncomputable section

namespace Cert.KernelIdeal.Array

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem out_final (c : Dev nD) : W4 m ρ c main_v8 = outK m c :=
  (W4_arr m ρ c 7).trans (out_arr m ρ c)

theorem codes_final (c : Dev nD) : W4 m ρ c main_v4_0 = codesK m c :=
  (W4_of m ρ c main_v4_0 (by decide)).trans (codes_entry m ρ c)

theorem scales_final (c : Dev nD) : W4 m ρ c main_v4_1 = scalesK m c :=
  (W4_of m ρ c main_v4_1 (by decide)).trans (scales_entry m ρ c)

set_option backward.isDefEq.respectTransparency.types false in
/-- Every run ends with the three results at their closed forms and the arguments unchanged. -/
theorem run : θ_run defs (onTc (τ := τ) (main (F := Ideal))) ⟨m, fun _ => 0, ρ⟩ (fun r => ∀ c : Dev nD,
      r.2.mem ((c.tc : Thread nD τ).loc main_v8) = outK m c
      ∧ r.2.mem ((c.tc : Thread nD τ).loc main_v4_0) = codesK m c
      ∧ r.2.mem ((c.tc : Thread nD τ).loc main_v4_1) = scalesK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8 (by decide))).trans (out_final m ρ c),
       (h c _ (mem_uc main_v4_0 (by decide))).trans (codes_final m ρ c),
       (h c _ (mem_uc main_v4_1 (by decide))).trans (scales_final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Array

end
-- ==== Proof.RefRow.lean ====
/-
  THE REFERENCE AT A POINT: row `i` of its codes, of its scales and of its result, as the functions of `Spec`.
-/
module

public import proofs.«01_k».proof.Proof.Gen.ReferenceIdeal.Frame
public import proofs.«01_k».proof.Proof.Select
public import Idealize.ShloMosaic.Lib.Pointwise

@[expose] public section

set_option maxRecDepth 16384
set_option maxHeartbeats 2000000

noncomputable section

namespace Cert.ReferenceIdeal.Row

open Idealize.ShloMosaic Idealize.ShloMosaic.TcCoe Idealize.SL.Sem
open Cert.ReferenceIdeal Cert.ReferenceIdeal.Gen

theorem hz : (![0, 0] : Fin 2 → Nat) = fun _ => 0 := funext fun a => by fin_cases a <;> rfl

theorem hz3 : (![0, 0, 0] : Fin 3 → Nat) = fun _ => 0 := funext fun a => by fin_cases a <;> rfl

/-- The f32 number 3584. -/
theorem length : Ideal.ofBits .f32 (0x45600000#32) = ((3584 : ℝ) : EReal) := by
  simp [Ideal.ofBits, Ideal.ieee, -EReal.coe_mul]; norm_num

variable (x0 : Vec Ideal S1x4096x3584 .bf16) (x1 x2 : Vec Ideal S1x16x3584 .bf16) (x3 : Vec Ideal S1x16x9472 .bf16)
  (x4 : Vec Ideal S4096x1 .i32) (x5 : Vec Ideal S3584x9472 .fp8e4m3) (x6 : Vec Ideal S1x9472 .f32) (x7 : Vec Ideal S1x9472 .bf16)

/-- The clipped condition words. -/
theorem clip_at (i : Fin 4096) : k0_pay80 x0 x1 x2 x3 x4 x5 x6 x7 (ix2 i 0) = Spec.clip (x4 (ix2 i 0)) := by
  pointwise [k0_pay80, k0_pay2]
  rfl

/-- The layer norm. -/
theorem norm_at (i : Fin 4096) (k : Fin 3584) :
    k0_pay81 x0 x1 x2 x3 x4 x5 x6 x7 (ix2 i k) = Spec.norm (fun j => x0 (ix3 0 i j)) k := by
  unfold k0_pay81
  rw [View.ld_unit_zero hz3]
  pointwise [k0_pay3]
  rw [length]
  simp only [Ideal.div_coe (by norm_num : (3584 : ℝ) ≠ 0)]
  rfl

/-- The selected shift row. -/
theorem shift_at (i : Fin 4096) (k : Fin 3584) :
    k0_pay82 x0 x1 x2 x3 x4 x5 x6 x7 (ix2 i k) = x1 (ix3 0 (Spec.row (x4 (ix2 i 0))) k) := by
  have h := Spec.tree (fun a => x1 (ix3 0 a k)) _ (Spec.clip_lt (x4 (ix2 i 0)))
  unfold k0_pay82
  rw [View.ld_unit_zero hz3]
  pointwise [k0_pay31, k0_pay30, k0_pay29, k0_pay28, k0_pay27, k0_pay26, k0_pay25, k0_pay24, k0_pay23, k0_pay22, k0_pay21,
    k0_pay20, k0_pay19, k0_pay18, k0_pay17, k0_pay16, k0_pay15, k0_pay14, k0_pay13, k0_pay12, k0_pay11, k0_pay10, k0_pay9,
    k0_pay8, k0_pay7, k0_pay6, k0_pay5, k0_pay4]
  simp only [clip_at]
  exact h

/-- The selected scale row: the two half tables, chosen by the word's highest bit. -/
theorem scale_at (i : Fin 4096) (k : Fin 3584) :
    Scalar.select (IntOp.cmpi .eq (IntOp.andi (k0_pay86 x0 x1 x2 x3 x4 x5 x6 x7 (ix2 i 0)) (k0_pay87 x0 x1 x2 x3 x4 x5 x6 x7 (ix2 i 0))) 1#32)
        (k0_pay85 x0 x1 x2 x3 x4 x5 x6 x7 (ix2 i k)) (k0_pay84 x0 x1 x2 x3 x4 x5 x6 x7 (ix2 i k))
      = x2 (ix3 0 (Spec.row (x4 (ix2 i 0))) k) := by
  have h := Spec.tree (fun a => x2 (ix3 0 a k)) _ (Spec.clip_lt (x4 (ix2 i 0)))
  unfold k0_pay84 k0_pay85 k0_pay86 k0_pay87 k0_pay83
  rw [View.ld_unit_zero hz3]
  pointwise [k0_pay53, k0_pay52, k0_pay51, k0_pay50, k0_pay49, k0_pay48, k0_pay47, k0_pay46, k0_pay45, k0_pay44, k0_pay43,
    k0_pay42, k0_pay41, k0_pay40, k0_pay39, k0_pay38, k0_pay37, k0_pay36, k0_pay35, k0_pay34, k0_pay33, k0_pay32]
  simp only [clip_at]
  exact h

/-- The modulated row. -/
theorem hidden_at (i : Fin 4096) (k : Fin 3584) :
    k0_pay54 (k0_pay81 x0 x1 x2 x3 x4 x5 x6 x7) (k0_pay82 x0 x1 x2 x3 x4 x5 x6 x7) (k0_pay84 x0 x1 x2 x3 x4 x5 x6 x7)
        (k0_pay85 x0 x1 x2 x3 x4 x5 x6 x7) (k0_pay86 x0 x1 x2 x3 x4 x5 x6 x7) (k0_pay87 x0 x1 x2 x3 x4 x5 x6 x7) (ix2 i k)
      = Spec.hidden (fun j => x0 (ix3 0 i j)) (fun j => x2 (ix3 0 (Spec.row (x4 (ix2 i 0))) j))
          (fun j => x1 (ix3 0 (Spec.row (x4 (ix2 i 0))) j)) k := by
  pointwise [k0_pay54]
  rw [scale_at, shift_at, norm_at]
  rfl

/-! ## The quantiser, over any modulated rows -/

/-- The rows' greatest magnitudes. -/
def maxVec (h : FVec Ideal S4096x3584 .f32) : FVec Ideal S4096x1 .f32 :=
  have v269 : FVec Ideal S4096x3584 .f32 := absf h
  have v270 : FVec Ideal S4096 .f32 := multiReduction .maximumf [1] S4096 v269 0xFF800000#32 reduces_S4096x3584_S4096 (.inl rfl) rfl
  have v271 : FVec Ideal S4096x1 .f32 := shapeCast S4096x1 v270 shapeCasts_S4096_S4096x1
  v271

/-- The rows' peaks. -/
def peakVec (h : FVec Ideal S4096x3584 .f32) : FVec Ideal S4096x1 .f32 :=
  mulf (maxVec h) (broadcast S4096x1 (Scalar.ofBits .f32 0x3B124925#32))

/-- The exponents as the program computes them from the peaks. -/
def expVec (v273 : FVec Ideal S4096x1 .f32) : FVec Ideal S4096x1 .f32 :=
  have cst_38 : Ideal .f32 := Scalar.ofBits .f32 0x00800000#32
  have v274 : FVec Ideal S4096x1 .f32 := broadcast S4096x1 cst_38
  have v275 : IVec S4096x1 1 := cmpf .olt v273 v274
  have v276 : FVec Ideal S4096x1 .f32 := log v273
  have cst_39 : Ideal .f32 := Scalar.ofBits .f32 0x40000000#32
  have v277 : FVec Ideal S4096x1 .f32 := broadcast S4096x1 cst_39
  have v278 : FVec Ideal S4096x1 .f32 := log v277
  have v279 : FVec Ideal S4096x1 .f32 := divf v276 v278
  have v280 : FVec Ideal S4096x1 .f32 := floor v279
  have cst_40 : Ideal .f32 := Scalar.ofBits .f32 0x3F800000#32
  have v281 : FVec Ideal S4096x1 .f32 := broadcast S4096x1 cst_40
  have v282 : FVec Ideal S4096x1 .f32 := addf v280 v281
  have cst_41 : Ideal .f32 := Scalar.ofBits .f32 0x00000000#32
  have v283 : FVec Ideal S4096x1 .f32 := broadcast S4096x1 cst_41
  have v284 : FVec Ideal S4096x1 .f32 := select v275 v283 v282
  v284

/-- The codes as the program computes them from the modulated rows and the exponents. -/
def codeVec (h : FVec Ideal S4096x3584 .f32) (e : FVec Ideal S4096x1 .f32) : FVec Ideal S4096x3584 .fp8e4m3 :=
  have cst_42 : Ideal .f32 := Scalar.ofBits .f32 0x00000000#32
  have v286 : FVec Ideal S4096x1 .f32 := broadcast S4096x1 cst_42
  have v287 : FVec Ideal S4096x1 .f32 := subf v286 e
  have v288 : FVec Ideal S4096x1 .f32 := exp2 v287
  have v289 : FVec Ideal S4096x3584 .f32 := broadcastTo S4096x3584 v288 broadcasts_S4096x1_S4096x3584
  have v290 : FVec Ideal S4096x3584 .f32 := mulf h v289
  have cst_43 : Ideal .f32 := Scalar.ofBits .f32 0xC3E00000#32
  have cst_44 : Ideal .f32 := Scalar.ofBits .f32 0x43E00000#32
  have v291 : FVec Ideal S4096x3584 .f32 := broadcast S4096x3584 cst_43
  have v292 : FVec Ideal S4096x3584 .f32 := maximumf v291 v290
  have v293 : FVec Ideal S4096x3584 .f32 := broadcast S4096x3584 cst_44
  have v294 : FVec Ideal S4096x3584 .f32 := minimumf v293 v292
  have v295 : FVec Ideal S4096x3584 .fp8e4m3 := truncf .fp8e4m3 v294 bitsLt_fp8e4m3_f32
  v295

theorem mulf_at (a b : FVec Ideal S4096x1 .f32) (i : S4096x1.Idx) : mulf a b i = a i * b i := rfl

theorem maxVec_at (h : FVec Ideal S4096x3584 .f32) (i : Fin 4096) :
    maxVec h (ix2 i 0)
      = Finset.univ.fold max (Ideal.ofBits .f32 (0xFF800000#32)) (fun k : Fin 3584 => max (h (ix2 i k)) (-h (ix2 i k))) := by
  pointwise [maxVec]
  simp only [Ideal.absf_def]

theorem peakVec_at (h : FVec Ideal S4096x3584 .f32) (i : Fin 4096) : peakVec h (ix2 i 0) = Spec.peak (fun k => h (ix2 i k)) := by
  rw [peakVec, mulf_at, maxVec_at, Spec.peak]
  rfl

theorem expVec_at (v : FVec Ideal S4096x1 .f32) (i : Fin 4096) : expVec v (ix2 i 0) = Spec.rexp (v (ix2 i 0)) := by
  pointwise [expVec]
  rfl

theorem codeVec_at (h : FVec Ideal S4096x3584 .f32) (e : FVec Ideal S4096x1 .f32) (i : Fin 4096) (k : Fin 3584) :
    codeVec h e (ix2 i k) = Spec.code (h (ix2 i k)) (Ideal.exp2 (0 - e (ix2 i 0))) := by
  pointwise [codeVec]
  rfl

theorem exp2_at (e : FVec Ideal S4096x1 .f32) (i : S4096x1.Idx) : exp2 e i = Ideal.exp2 (e i) := rfl

section

variable (a b c d : FVec Ideal S4096x3584 .f32) (p q : IVec S4096x1 32)

theorem exp_eq : k0_pay55 a b c d p q = expVec (peakVec (k0_pay54 a b c d p q)) := rfl

theorem scale_eq : k0_pay56 a b c d p q = exp2 (expVec (peakVec (k0_pay54 a b c d p q))) := rfl

theorem codes_eq : k0_pay57 a b c d p q = codeVec (k0_pay54 a b c d p q) (expVec (peakVec (k0_pay54 a b c d p q))) := rfl

end

/-! ## The three results at a point -/

/-- The row's exponent. -/
theorem exp_at (i : Fin 4096) :
    expVec (peakVec (k0_pay54 (k0_pay81 x0 x1 x2 x3 x4 x5 x6 x7) (k0_pay82 x0 x1 x2 x3 x4 x5 x6 x7) (k0_pay84 x0 x1 x2 x3 x4 x5 x6 x7)
        (k0_pay85 x0 x1 x2 x3 x4 x5 x6 x7) (k0_pay86 x0 x1 x2 x3 x4 x5 x6 x7) (k0_pay87 x0 x1 x2 x3 x4 x5 x6 x7))) (ix2 i 0)
      = Spec.rexp (Spec.peak (Spec.hidden (fun j => x0 (ix3 0 i j)) (fun j => x2 (ix3 0 (Spec.row (x4 (ix2 i 0))) j))
          (fun j => x1 (ix3 0 (Spec.row (x4 (ix2 i 0))) j)))) :=
  (expVec_at _ i).trans ((congrArg Spec.rexp (peakVec_at _ i)).trans (congrArg (fun h => Spec.rexp (Spec.peak h)) (funext fun k => hidden_at x0 x1 x2 x3 x4 x5 x6 x7 i k)))

/-- The row's scale. -/
theorem scales_at (i : Fin 4096) :
    k0_pay88 x0 x1 x2 x3 x4 x5 x6 x7 (ix2 i 0)
      = Spec.rscale (Spec.peak (Spec.hidden (fun j => x0 (ix3 0 i j)) (fun j => x2 (ix3 0 (Spec.row (x4 (ix2 i 0))) j))
          (fun j => x1 (ix3 0 (Spec.row (x4 (ix2 i 0))) j)))) := by
  rw [k0_pay88, scale_eq, exp2_at, exp_at, Spec.rscale]

/-- The row's codes. -/
theorem codes_at (i : Fin 4096) (k : Fin 3584) :
    k0_pay57 (k0_pay81 x0 x1 x2 x3 x4 x5 x6 x7) (k0_pay82 x0 x1 x2 x3 x4 x5 x6 x7) (k0_pay84 x0 x1 x2 x3 x4 x5 x6 x7)
        (k0_pay85 x0 x1 x2 x3 x4 x5 x6 x7) (k0_pay86 x0 x1 x2 x3 x4 x5 x6 x7) (k0_pay87 x0 x1 x2 x3 x4 x5 x6 x7) (ix2 i k)
      = Spec.code (Spec.hidden (fun j => x0 (ix3 0 i j)) (fun j => x2 (ix3 0 (Spec.row (x4 (ix2 i 0))) j))
          (fun j => x1 (ix3 0 (Spec.row (x4 (ix2 i 0))) j)) k)
        (Spec.rinv (Spec.peak (Spec.hidden (fun j => x0 (ix3 0 i j)) (fun j => x2 (ix3 0 (Spec.row (x4 (ix2 i 0))) j))
          (fun j => x1 (ix3 0 (Spec.row (x4 (ix2 i 0))) j))))) := by
  rw [codes_eq, codeVec_at, exp_at, hidden_at, Spec.rinv]

/-- The gate row the word selects: the two half tables, chosen by its highest bit. -/
theorem gate_at (i : Fin 4096) (k : Fin 9472) (p : Vec Ideal S4096x1 .i32)
    (hp : p (ix2 i 0) = Spec.clip (x4 (ix2 i 0))) :
    Spec.fork (Spec.clip (x4 (ix2 i 0))) 3#32
        (k0_pay77 p (k0_pay68 p (k0_pay59 x3)) (k0_pay69 p (k0_pay59 x3)) (k0_pay70 p (k0_pay59 x3)) (k0_pay71 p (k0_pay59 x3)) (ix2 i k))
        (k0_pay78 p (k0_pay61 (k0_pay59 x3)) (k0_pay62 (k0_pay59 x3)) (k0_pay63 (k0_pay59 x3)) (k0_pay64 (k0_pay59 x3))
          (k0_pay65 (k0_pay59 x3)) (k0_pay66 (k0_pay59 x3)) (k0_pay67 p) (k0_pay72 p) (k0_pay73 (k0_pay59 x3)) (k0_pay74 (k0_pay59 x3)) (ix2 i k))
      = x3 (ix3 0 (Spec.row (x4 (ix2 i 0))) k) := by
  have h := Spec.tree (fun a => x3 (ix3 0 a k)) _ (Spec.clip_lt (x4 (ix2 i 0)))
  pointwise [k0_pay78, k0_pay77, k0_pay76, k0_pay75, k0_pay74, k0_pay73, k0_pay72, k0_pay71, k0_pay70, k0_pay69, k0_pay68,
    k0_pay67, k0_pay66, k0_pay65, k0_pay64, k0_pay63, k0_pay62, k0_pay61, k0_pay60, k0_pay59]
  simp only [hp]
  exact h

/-- The contraction. -/
theorem dot_at (i : Fin 4096) (k : Fin 9472) :
    k0_pay58 (k0_pay81 x0 x1 x2 x3 x4 x5 x6 x7) (k0_pay82 x0 x1 x2 x3 x4 x5 x6 x7) (k0_pay84 x0 x1 x2 x3 x4 x5 x6 x7)
        (k0_pay85 x0 x1 x2 x3 x4 x5 x6 x7) (k0_pay86 x0 x1 x2 x3 x4 x5 x6 x7) (k0_pay87 x0 x1 x2 x3 x4 x5 x6 x7) x5 (ix2 i k)
      = ∑ j : Fin 3584, k0_pay57 (k0_pay81 x0 x1 x2 x3 x4 x5 x6 x7) (k0_pay82 x0 x1 x2 x3 x4 x5 x6 x7) (k0_pay84 x0 x1 x2 x3 x4 x5 x6 x7)
        (k0_pay85 x0 x1 x2 x3 x4 x5 x6 x7) (k0_pay86 x0 x1 x2 x3 x4 x5 x6 x7) (k0_pay87 x0 x1 x2 x3 x4 x5 x6 x7) (ix2 i j) * x5 (ix2 j k) := by
  pointwise [k0_pay58]

/-- The result. -/
theorem out_at (i : Fin 4096) (k : Fin 9472) :
    out0_8 x0 x1 x2 x3 x4 x5 x6 x7 (ix2 i k)
      = Spec.out (fun j => out0_9 x0 x1 x2 x3 x4 x5 x6 x7 (ix2 i j)) (fun j => x5 (ix2 j k))
          (out0_10 x0 x1 x2 x3 x4 x5 x6 x7 (ix2 i 0)) (x6 (ix2 0 k)) (x7 (ix2 0 k)) (x3 (ix3 0 (Spec.row (x4 (ix2 i 0))) k)) := by
  unfold out0_8 out0_9 out0_10 k0_pay89
  rw [View.canon_unit_zero hz, View.canon_unit_zero hz, View.canon_unit_zero hz,
    View.ld_unit_zero (S := S1x16x9472) hz3, View.ld_unit_zero (S := S3584x9472) hz]
  have hg := gate_at x3 x4 i k (k0_pay80 x0 x1 x2 x3 x4 x5 x6 x7) (clip_at ..)
  pointwise [k0_pay1, k0_pay79]
  rw [clip_at, dot_at, Spec.out]
  unfold Spec.fork Spec.bit at hg
  rw [hg]

end Cert.ReferenceIdeal.Row

end
-- ==== Proof.RefArray.lean ====
module

public import proofs.«01_k».proof.Proof.Gen.ReferenceIdeal.Value
public import proofs.«01_k».proof.Proof.RefRow
public import Idealize.ShloMosaic.Lib.Pipeline.Value
public import Idealize.ShloMosaic.Lib.Pipeline.ValueKit
public import Idealize.ShloMosaic.Lib.Claim

/-! The reference's three result arrays, entry by entry, as functions of its arguments. -/

@[expose] public section

set_option maxRecDepth 16384

noncomputable section

namespace Cert.ReferenceIdeal.Array

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- Every window's block is the whole array. -/
theorem idx (t : Fin cfg0.N) :
    win0_0.index t = ![0, 0, 0] ∧ win0_1.index t = ![0, 0, 0] ∧ win0_2.index t = ![0, 0, 0] ∧ win0_3.index t = ![0, 0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] := by
  revert t; decide +kernel

theorem x_at (c : Dev nD) (t : Fin cfg0.N) (i : Fin 4096) (k : Fin 3584) :
    iblk m c 0 t (ix3 0 i k) = m ((c : Thread nD τ).loc main_arg0) (ix3 0 i k) := by
  blk_ext [iblk, V, idx t]

theorem shift_at (c : Dev nD) (t : Fin cfg0.N) (i : Fin 16) (k : Fin 3584) :
    iblk m c 1 t (ix3 0 i k) = m ((c : Thread nD τ).loc main_arg1) (ix3 0 i k) := by
  blk_ext [iblk, V, idx t]

theorem scale_at (c : Dev nD) (t : Fin cfg0.N) (i : Fin 16) (k : Fin 3584) :
    iblk m c 2 t (ix3 0 i k) = m ((c : Thread nD τ).loc main_arg2) (ix3 0 i k) := by
  blk_ext [iblk, V, idx t]

theorem gate_at (c : Dev nD) (t : Fin cfg0.N) (i : Fin 16) (k : Fin 9472) :
    iblk m c 3 t (ix3 0 i k) = m ((c : Thread nD τ).loc main_arg3) (ix3 0 i k) := by
  blk_ext [iblk, V, idx t]

theorem w_at (c : Dev nD) (t : Fin cfg0.N) (i : Fin 3584) (k : Fin 9472) :
    iblk m c 5 t (ix2 i k) = m ((c : Thread nD τ).loc main_arg5) (ix2 i k) := by
  blk_ext [iblk, V, idx t]

theorem ids_at (c : Dev nD) (t : Fin cfg0.N) (i : Fin 4096) :
    iblk m c 4 t (ix2 i 0) = m ((c : Thread nD τ).loc main_arg4) (ix2 0 i) := by
  have h : iblk m c 4 t (ix2 i 0) = V m c main_v0 (ix2 i 0) := by
    blk_ext [iblk, idx t]
  rw [h]
  entry_read
  pointwise

theorem ws_at (c : Dev nD) (t : Fin cfg0.N) (k : Fin 9472) :
    iblk m c 6 t (ix2 0 k) = m ((c : Thread nD τ).loc main_arg6) (ix1 k) := by
  have h : iblk m c 6 t (ix2 0 k) = V m c main_v1 (ix2 0 k) := by
    blk_ext [iblk, idx t]
  rw [h]
  entry_read
  pointwise

theorem bias_at (c : Dev nD) (t : Fin cfg0.N) (k : Fin 9472) :
    iblk m c 7 t (ix2 0 k) = m ((c : Thread nD τ).loc main_arg7) (ix1 k) := by
  have h : iblk m c 7 t (ix2 0 k) = V m c main_v2 (ix2 0 k) := by
    blk_ext [iblk, idx t]
  rw [h]
  entry_read
  pointwise

/-- The hidden row `i`, before quantisation, of the arguments. -/
def hid (c : Dev nD) (i : Fin 4096) : Spec.Row :=
  Spec.hidden (fun j => m ((c : Thread nD τ).loc main_arg0) (ix3 0 i j))
    (fun j => m ((c : Thread nD τ).loc main_arg2) (ix3 0 (Spec.row (m ((c : Thread nD τ).loc main_arg4) (ix2 0 i))) j))
    (fun j => m ((c : Thread nD τ).loc main_arg1) (ix3 0 (Spec.row (m ((c : Thread nD τ).loc main_arg4) (ix2 0 i))) j))

/-- The scale of row `i`. -/
def scaleOf (c : Dev nD) (i : Fin 4096) : EReal := Spec.rscale (Spec.peak (hid m c i))

/-- The code at row `i`, column `k`. -/
def codeOf (c : Dev nD) (i : Fin 4096) (k : Fin 3584) : EReal :=
  Spec.code (hid m c i k) (Spec.rinv (Spec.peak (hid m c i)))

/-- The product's entry at row `i`, column `k`. -/
def outOf (c : Dev nD) (i : Fin 4096) (k : Fin 9472) : EReal :=
  Spec.out (codeOf m c i) (fun j => m ((c : Thread nD τ).loc main_arg5) (ix2 j k)) (scaleOf m c i)
    (m ((c : Thread nD τ).loc main_arg6) (ix1 k)) (m ((c : Thread nD τ).loc main_arg7) (ix1 k))
    (m ((c : Thread nD τ).loc main_arg3) (ix3 0 (Spec.row (m ((c : Thread nD τ).loc main_arg4) (ix2 0 i))) k))

theorem scales_blk (c : Dev nD) (t : Fin cfg0.N) (i : Fin 4096) :
    out0_10 (iblk m c 0 t) (iblk m c 1 t) (iblk m c 2 t) (iblk m c 3 t) (iblk m c 4 t) (iblk m c 5 t) (iblk m c 6 t)
      (iblk m c 7 t) (ix2 i 0) = scaleOf m c i := by
  unfold out0_10
  rw [View.canon_unit_zero Row.hz, Row.scales_at, scaleOf, hid]
  simp only [x_at, shift_at, scale_at, ids_at]

theorem codes_blk (c : Dev nD) (t : Fin cfg0.N) (i : Fin 4096) (k : Fin 3584) :
    out0_9 (iblk m c 0 t) (iblk m c 1 t) (iblk m c 2 t) (iblk m c 3 t) (iblk m c 4 t) (iblk m c 5 t) (iblk m c 6 t)
      (iblk m c 7 t) (ix2 i k) = codeOf m c i k := by
  unfold out0_9
  rw [View.canon_unit_zero Row.hz, Row.codes_at, codeOf, hid]
  simp only [x_at, shift_at, scale_at, ids_at]

theorem out_blk (c : Dev nD) (t : Fin cfg0.N) (i : Fin 4096) (k : Fin 9472) :
    out0_8 (iblk m c 0 t) (iblk m c 1 t) (iblk m c 2 t) (iblk m c 3 t) (iblk m c 4 t) (iblk m c 5 t) (iblk m c 6 t)
      (iblk m c 7 t) (ix2 i k) = outOf m c i k := by
  rw [Row.out_at, outOf]
  simp only [codes_blk, scales_blk, w_at, ws_at, bias_at, gate_at, ids_at]

/-- The column of scales. -/
def scalesR (c : Dev nD) : S4096x1.Idx → EReal := fun z => scaleOf m c (z 0)

/-- The matrix of codes. -/
def codesR (c : Dev nD) : S4096x3584.Idx → EReal := fun z => codeOf m c (z 0) (z 1)

/-- The matrix of results. -/
def outR (c : Dev nD) : S4096x9472.Idx → EReal := fun z => outOf m c (z 0) (z 1)

theorem scales_arr (c : Dev nD) : (dats m 0 c).arrAt 10 cfg0.N = scalesR m c := by
  refine (dats m 0 c).arrAt_eq_of_covers 10 _ (by decide +kernel) fun t hf y => ?_
  blk_simp
  rw [after0_10]
  obtain ⟨a, b, rfl⟩ : ∃ (a : Fin 4096) (b : Fin 1), y = ix2 a b := ⟨y 0, y 1, eq_ix2 y⟩
  obtain rfl : b = 0 := Subsingleton.elim _ _
  refine (scales_blk m c t a).trans ?_
  change scalesR m c (ix2 a 0) = scalesR m c _
  blk_ext [idx t]

theorem codes_arr (c : Dev nD) :
    (dats m 0 c).arrAt 9 cfg0.N = codesR m c := by
  refine (dats m 0 c).arrAt_eq_of_covers 9 _ (by decide +kernel) fun t hf y => ?_
  blk_simp
  rw [after0_9]
  obtain ⟨a, b, rfl⟩ : ∃ (a : Fin 4096) (b : Fin 3584), y = ix2 a b := ⟨y 0, y 1, eq_ix2 y⟩
  refine (codes_blk m c t a b).trans ?_
  change codesR m c (ix2 a b) = codesR m c _
  blk_ext [idx t]

theorem out_arr (c : Dev nD) :
    (dats m 0 c).arrAt 8 cfg0.N = outR m c := by
  refine (dats m 0 c).arrAt_eq_of_covers 8 _ (by decide +kernel) fun t hf y => ?_
  blk_simp
  rw [after0_8]
  obtain ⟨a, b, rfl⟩ : ∃ (a : Fin 4096) (b : Fin 9472), y = ix2 a b := ⟨y 0, y 1, eq_ix2 y⟩
  refine (out_blk m c t a b).trans ?_
  change outR m c (ix2 a b) = outR m c _
  blk_ext [idx t]

end Cert.ReferenceIdeal.Array

end
-- ==== Proof.Exponent.lean ====
/-
  THE KERNEL'S EXPONENT IS THE REFERENCE'S: for a real `v` with `0 ≤ v < 2^126` the exponent field the kernel's search
  finds is 0 when `v < 2^-126` and otherwise `floor (log₂ v) + 127`, so its two powers of two are the reference's
  `exp2 e` and `exp2 (-e)`.
-/
module

public import proofs.«01_k».proof.Proof.Spec

@[expose] public section

noncomputable section

namespace Cert.Spec

open Idealize.ShloMosaic

/-! ## The powers of two -/

/-- The bits of a field word shifted into place (decided over the 256 words). -/
theorem field_bits : ∀ n < 256, ((BitVec.ofNat 32 n <<< 23).extractLsb' 23 8).toNat = n
    ∧ ((BitVec.ofNat 32 n <<< 23).extractLsb' 0 23).toNat = 0 ∧ ((BitVec.ofNat 32 n <<< 23).extractLsb' 31 1 == 1#1) = false := by
  decide +kernel

theorem power_def (w : BitVec 32) : power w = Ideal.ieee 8 23 (w <<< 23) := rfl

/-- The float of field `n` is `2^(n-127)`, -/
theorem power_normal {n : ℕ} (h1 : 1 ≤ n) (h2 : n ≤ 254) :
    power (BitVec.ofNat 32 n) = (((2 : ℝ) ^ ((n : ℤ) - 127) : ℝ) : EReal) := by
  obtain ⟨he, hf, hs⟩ := field_bits n (by omega)
  rw [power_def]
  unfold Ideal.ieee
  simp only [he, hf, hs]
  rw [if_neg (by omega), if_neg (by omega)]
  have key : (1 : ℝ) * ((2 ^ 23 + 0 : ℕ) : ℝ) * (2 : ℝ) ^ ((n : ℤ) - (2 ^ (8 - 1) - 1) - ((23 : ℕ) : ℤ))
      = (2 : ℝ) ^ ((n : ℤ) - 127) := by
    rw [show ((2 ^ 23 + 0 : ℕ) : ℝ) = (2 : ℝ) ^ (23 : ℤ) by norm_num, one_mul, ← zpow_add₀ (by norm_num)]
    exact congrArg _ (by norm_num)
  exact congrArg Real.toEReal key

/-- of field 255 infinity, -/
theorem power_top : power (BitVec.ofNat 32 255) = ⊤ := by
  obtain ⟨he, hf, hs⟩ := field_bits 255 (by omega)
  rw [power_def]
  unfold Ideal.ieee
  simp only [he, hf, hs]
  rw [if_pos (by norm_num), if_pos trivial, if_neg (by simp)]

/-- of field 0 zero. -/
theorem power_zero : power (BitVec.ofNat 32 0) = 0 := by
  obtain ⟨he, hf, hs⟩ := field_bits 0 (by omega)
  rw [power_def]
  unfold Ideal.ieee
  simp only [he, hf, hs]
  rw [if_neg (by norm_num), if_pos trivial]
  simp

/-! ## The search -/

/-- The search's state before the bit `b` and below are decided: `w` is a field `f`, not above `v`'s, and `f + 2b` is. -/
def Found (v : EReal) (w : BitVec 32) (b : ℕ) : Prop :=
  ∃ f : ℕ, w = BitVec.ofNat 32 f ∧ f + b ≤ 256 ∧ power (BitVec.ofNat 32 f) ≤ v
    ∧ (f + b = 256 ∨ v < power (BitVec.ofNat 32 (f + b)))

theorem found_step {v : EReal} {w : BitVec 32} {b : ℕ} (h : Found v w (b + b)) : Found v (step v w (BitVec.ofNat 32 b)) b := by
  obtain ⟨f, rfl, hb, hle, hlt⟩ := h
  have ha : IntOp.addi (BitVec.ofNat 32 f) (BitVec.ofNat 32 b) = BitVec.ofNat 32 (f + b) := (BitVec.ofNat_add ..).symm
  unfold step
  rw [ha]
  split
  case isTrue hv => exact ⟨f, rfl, by omega, hle, Or.inr hv⟩
  case isFalse hv =>
    refine ⟨f + b, rfl, by omega, not_lt.mp hv, ?_⟩
    rcases hlt with h | h
    · left; omega
    · right; rwa [Nat.add_assoc]

/-- What the search finds: the greatest field whose float is not above `v`. -/
theorem field_found {v : EReal} (h0 : 0 ≤ v) : Found v (field v) 1 := by
  have h : Found v 0#32 (128 + 128) := ⟨0, rfl, by omega, by rw [power_zero]; exact h0, Or.inl rfl⟩
  have h := found_step h
  have h := found_step (b := 64) h
  have h := found_step (b := 32) h
  have h := found_step (b := 16) h
  have h := found_step (b := 8) h
  have h := found_step (b := 4) h
  have h := found_step (b := 2) h
  exact found_step (b := 1) h

/-! ## The two exponents -/

/-- The smallest normal f32 number. -/
theorem tiny : Ideal.ofBits .f32 (0x00800000#32) = (((2 : ℝ) ^ (-126 : ℤ) : ℝ) : EReal) :=
  (power_normal (n := 1) (by omega) (by omega)).trans (by norm_num)

theorem two : Ideal.ofBits .f32 (0x40000000#32) = ((2 : ℝ) : EReal) :=
  (power_normal (n := 128) (by omega) (by omega)).trans (by norm_num)

/-- The exponent both programs use for `v`, as an integer `e`: the kernel's two words name `2^e` and `2^-e`, and the
    reference's exponent is `e`. -/
theorem exponent {r : ℝ} (h0 : 0 ≤ r) (h1 : r < (2 : ℝ) ^ (126 : ℤ)) :
    ∃ e : ℤ, rexp (r : EReal) = ((e : ℝ) : EReal) ∧ kscale (r : EReal) = (((2 : ℝ) ^ e : ℝ) : EReal)
      ∧ kinv (r : EReal) = (((2 : ℝ) ^ (-e) : ℝ) : EReal) := by
  have h0' : (0 : EReal) ≤ (r : EReal) := by exact_mod_cast h0
  obtain ⟨f, hf, hb, hle, hlt⟩ := field_found h0'
  have hf255 : f ≤ 254 := by
    by_contra hc
    have : f = 255 := by omega
    subst this
    rw [power_top] at hle
    exact absurd (top_le_iff.mp hle) (EReal.coe_ne_top r)
  have hlt : (r : EReal) < power (BitVec.ofNat 32 (f + 1)) := hlt.resolve_left (by omega)
  unfold kscale kinv kexp
  rw [hf]
  rcases Nat.eq_zero_or_pos f with rfl | hpos
  · -- below the smallest normal number: exponent 0
    rw [power_normal (by omega) (by omega)] at hlt
    refine ⟨0, ?_, ?_, ?_⟩
    · unfold rexp
      rw [tiny, if_pos (by simpa using hlt)]
      simp
    · exact (power_normal (n := 127) (by omega) (by omega)).trans (by norm_num)
    · exact (power_normal (n := 127) (by omega) (by omega)).trans (by norm_num)
  · rw [power_normal hpos hf255, EReal.coe_le_coe_iff] at hle
    have hf252 : f ≤ 252 := by
      have : (2 : ℝ) ^ ((f : ℤ) - 127) < (2 : ℝ) ^ (126 : ℤ) := lt_of_le_of_lt hle h1
      have := (zpow_lt_zpow_iff_right₀ (by norm_num : (1 : ℝ) < 2)).mp this
      omega
    rw [power_normal (by omega) (by omega), EReal.coe_lt_coe_iff] at hlt
    have hrpos : 0 < r := lt_of_lt_of_le (by positivity) hle
    have hne : IntOp.cmpi .eq (BitVec.ofNat 32 f) 0#32 = 0#1 := by
      have : ∀ n < 256, 0 < n → IntOp.cmpi .eq (BitVec.ofNat 32 n) 0#32 = 0#1 := by decide +kernel
      exact this f (by omega) hpos
    rw [hne, ValueIdx.select_zero]
    have hw : ∀ n < 253, 0 < n → IntOp.addi 127#32 (IntOp.subi (BitVec.ofNat 32 n) 126#32) = BitVec.ofNat 32 (n + 1)
        ∧ IntOp.subi 127#32 (IntOp.subi (BitVec.ofNat 32 n) 126#32) = BitVec.ofNat 32 (253 - n) := by decide +kernel
    obtain ⟨hw1, hw2⟩ := hw f (by omega) hpos
    rw [hw1, hw2, power_normal (by omega) (by omega), power_normal (by omega) (by omega)]
    refine ⟨(f : ℤ) - 126, ?_, ?_, ?_⟩
    · unfold rexp
      have hge : ¬ (r : EReal) < (((2 : ℝ) ^ (-126 : ℤ) : ℝ) : EReal) := by
        rw [EReal.coe_lt_coe_iff, not_lt]
        refine le_trans ?_ hle
        exact zpow_le_zpow_right₀ (by norm_num) (by omega)
      rw [tiny, if_neg hge, two, Ideal.log_coe, Ideal.log_coe, if_neg (not_le.mpr hrpos), if_neg (by norm_num),
        Ideal.div_coe (Real.log_pos (by norm_num)).ne', ← EReal.coe_mul, Ideal.liftRound_coe]
      have hfl : ⌊Real.log r * (1 / Real.log 2)⌋ = (f : ℤ) - 127 := by
        have hl2 : 0 < Real.log 2 := Real.log_pos (by norm_num)
        rw [mul_one_div, Int.floor_eq_iff]
        constructor
        · rw [le_div_iff₀ hl2, ← Real.log_zpow]
          exact Real.log_le_log (by positivity) hle
        · rw [div_lt_iff₀ hl2]
          have : (((f : ℤ) - 127 : ℤ) : ℝ) + 1 = (((f : ℤ) - 126 : ℤ) : ℝ) := by push_cast; ring
          rw [this, ← Real.log_zpow]
          refine Real.log_lt_log hrpos (lt_of_lt_of_eq hlt ?_)
          congr 1
          push_cast
          ring
      rw [hfl, ← EReal.coe_one, ← EReal.coe_add]
      congr 1
      push_cast
      ring
    · congr 2
      push_cast
      ring
    · congr 2
      rw [Nat.cast_sub (by omega)]
      push_cast
      ring

/-- So the kernel's scale and inverse scale of a row are the reference's. -/
theorem scales_eq {r : ℝ} (h0 : 0 ≤ r) (h1 : r < (2 : ℝ) ^ (126 : ℤ)) :
    kscale (r : EReal) = rscale (r : EReal) ∧ kinv (r : EReal) = rinv (r : EReal) := by
  obtain ⟨e, he, hs, hi⟩ := exponent h0 h1
  unfold rscale rinv
  rw [he, hs, hi, ← EReal.coe_zero, ← EReal.coe_sub, Ideal.exp2_coe, Ideal.exp2_coe, zero_sub]
  refine ⟨?_, ?_⟩
  · rw [show Real.rpow 2 (e : ℝ) = (2 : ℝ) ^ (e : ℝ) from rfl, Real.rpow_intCast]
  · rw [show Real.rpow 2 (-(e : ℝ)) = (2 : ℝ) ^ (-(e : ℝ)) from rfl, ← Int.cast_neg, Real.rpow_intCast]

end Cert.Spec

end
-- ==== Proof.Bound.lean ====
/-
  HOW LARGE A ROW'S PEAK CAN BE: a normalised entry is at most 60 in magnitude whatever the row is (the square of an
  entry is at most the sum of the squares, and a row with an infinite entry normalises to zero), so with finite bf16
  modulation tables the peak is a nonnegative real below `2^126`.
-/
module

public import proofs.«01_k».proof.Proof.Exponent

@[expose] public section

noncomputable section

namespace Cert.Spec

open Idealize.ShloMosaic

/-! ## Sums of extended reals -/

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A sum with an infinite entry is infinite. -/
theorem sum_infinite {ι : Type} (s : Finset ι) (f : ι → EReal) {k : ι} (hk : k ∈ s) (h : f k = ⊤ ∨ f k = ⊥) :
    (∑ j ∈ s, f j) = ⊤ ∨ (∑ j ∈ s, f j) = ⊥ := by
  classical
  rw [← Finset.add_sum_erase s f hk]
  rcases h with h | h <;> rw [h]
  · by_cases hb : ∑ j ∈ s.erase k, f j = ⊥
    · right; rw [hb, EReal.add_bot]
    · left; exact EReal.top_add_of_ne_bot hb
  · right; exact EReal.bot_add _

/-- A sum of infinities `⊤` over a row is `⊤`. -/
theorem sum_top {n : ℕ} : ∑ _k : Fin (n + 1), (⊤ : EReal) = ⊤ := by
  induction n with
  | zero => simp
  | succ n ih => rw [Fin.sum_univ_succ, ih]; rfl

/-! ## The constants -/

/-- The layer norm's `ε`. -/
theorem eps : Ideal.ofBits .f32 (0x358637BD#32) = (((8796093 : ℝ) * 2 ^ (-43 : ℤ) : ℝ) : EReal) := by
  have h1 : ((0x358637BD#32 : BitVec 32).extractLsb' 23 8).toNat = 107 := by decide +kernel
  have h2 : ((0x358637BD#32 : BitVec 32).extractLsb' 0 23).toNat = 407485 := by decide +kernel
  have h3 : ((0x358637BD#32 : BitVec 32).extractLsb' 31 1 == 1#1) = false := by decide +kernel
  simp only [Ideal.ofBits, Ideal.ieee, h1, h2, h3]
  rw [if_neg (by norm_num), if_neg (by norm_num)]
  refine congrArg Real.toEReal ?_
  norm_num

/-- The f32 constant `1 / 448`. -/
theorem inv448 : Ideal.ofBits .f32 (0x3B124925#32) = (((9586981 : ℝ) * 2 ^ (-32 : ℤ) : ℝ) : EReal) := by
  have h1 : ((0x3B124925#32 : BitVec 32).extractLsb' 23 8).toNat = 118 := by decide +kernel
  have h2 : ((0x3B124925#32 : BitVec 32).extractLsb' 0 23).toNat = 1198373 := by decide +kernel
  have h3 : ((0x3B124925#32 : BitVec 32).extractLsb' 31 1 == 1#1) = false := by decide +kernel
  simp only [Ideal.ofBits, Ideal.ieee, h1, h2, h3]
  rw [if_neg (by norm_num), if_neg (by norm_num)]
  refine congrArg Real.toEReal ?_
  norm_num

/-- The greatest finite bf16 number. -/
theorem bf16_max : Ideal.ofBits .f32 (0x7F7F0000#32) = (((16711680 : ℝ) * 2 ^ (104 : ℤ) : ℝ) : EReal) := by
  have h1 : ((0x7F7F0000#32 : BitVec 32).extractLsb' 23 8).toNat = 254 := by decide +kernel
  have h2 : ((0x7F7F0000#32 : BitVec 32).extractLsb' 0 23).toNat = 8323072 := by decide +kernel
  have h3 : ((0x7F7F0000#32 : BitVec 32).extractLsb' 31 1 == 1#1) = false := by decide +kernel
  simp only [Ideal.ofBits, Ideal.ieee, h1, h2, h3]
  rw [if_neg (by norm_num), if_neg (by norm_num)]
  refine congrArg Real.toEReal ?_
  norm_num

/-- Minus infinity, where the fold of the magnitudes starts. -/
theorem neg_inf : Ideal.ofBits .f32 (0xFF800000#32) = ⊥ := by
  have h1 : ((0xFF800000#32 : BitVec 32).extractLsb' 23 8).toNat = 255 := by decide +kernel
  have h2 : ((0xFF800000#32 : BitVec 32).extractLsb' 0 23).toNat = 0 := by decide +kernel
  have h3 : ((0xFF800000#32 : BitVec 32).extractLsb' 31 1 == 1#1) = true := by decide +kernel
  simp only [Ideal.ofBits, Ideal.ieee, h1, h2, h3]
  rw [if_pos (by norm_num), if_pos trivial, if_pos trivial]

/-! ## A normalised entry -/

/-- With every entry real: `|d| / √(σ + ε) ≤ 60`, since `d² ≤ Σ d² = 3584 σ`. -/
theorem norm_real (r : Fin 3584 → ℝ) (k : Fin 3584) : ∃ z : ℝ, norm (fun j => (r j : EReal)) k = (z : EReal) ∧ |z| ≤ 60 := by
  let d : Fin 3584 → ℝ := fun j => r j - (∑ i, r i) * (1 / 3584)
  let σ : ℝ := (∑ j, d j * d j) * (1 / 3584)
  let ε : ℝ := (8796093 : ℝ) * 2 ^ (-43 : ℤ)
  have hε : 0 < ε := by positivity
  have hσ : 0 ≤ σ := mul_nonneg (Finset.sum_nonneg fun j _ => mul_self_nonneg _) (by norm_num)
  have hd : ∀ j, centred (fun j => (r j : EReal)) j = (d j : EReal) := by
    intro j
    unfold centred kap
    rw [coe_sum, ← EReal.coe_mul, ← EReal.coe_sub]
  have hs : (∑ j, centred (fun j => (r j : EReal)) j * centred (fun j => (r j : EReal)) j) * kap = (σ : EReal) := by
    rw [Finset.sum_congr rfl fun j _ => by rw [hd j, ← EReal.coe_mul], coe_sum]
    unfold kap
    rw [← EReal.coe_mul]
  have hpos : 0 < σ + ε := by linarith
  refine ⟨d k * (1 / Real.sqrt (σ + ε)), ?_, ?_⟩
  · unfold norm
    rw [hs, eps, ← EReal.coe_add, Ideal.rsqrt_coe, if_neg (not_lt.mpr hpos.le), if_neg hpos.ne', hd, ← EReal.coe_mul, one_div]
  · have hsq : d k * d k ≤ 3584 * σ := by
      have := Finset.single_le_sum (f := fun j => d j * d j) (fun j _ => mul_self_nonneg _) (Finset.mem_univ k)
      show d k * d k ≤ 3584 * ((∑ j, d j * d j) * (1 / 3584))
      linarith
    have hroot : |d k| ≤ 60 * Real.sqrt (σ + ε) := by
      rw [← Real.sqrt_sq_eq_abs, show (60 : ℝ) = Real.sqrt 3600 by
        rw [show (3600 : ℝ) = 60 ^ 2 by norm_num]; exact (Real.sqrt_sq (by norm_num)).symm, ← Real.sqrt_mul (by norm_num)]
      apply Real.sqrt_le_sqrt
      nlinarith
    have hr : 0 < Real.sqrt (σ + ε) := Real.sqrt_pos.mpr hpos
    rw [abs_mul, abs_of_pos (by positivity : 0 < 1 / Real.sqrt (σ + ε)), mul_one_div, div_le_iff₀ hr]
    exact hroot

/-- With an infinite entry: the mean is infinite, so is every centred entry and the variance, and the row is zero. -/
theorem norm_infinite (x : Row) {j : Fin 3584} (hj : x j = ⊤ ∨ x j = ⊥) (k : Fin 3584) : norm x k = 0 := by
  have hκ : (0 : ℝ) < 1 / 3584 := by norm_num
  have hc : ∀ i, centred x i = ⊤ ∨ centred x i = ⊥ := by
    intro i
    unfold centred kap
    rcases sum_infinite Finset.univ x (Finset.mem_univ j) hj with h | h <;> rw [h]
    · rw [EReal.top_mul_coe_of_pos hκ]
      right
      rw [sub_eq_add_neg, EReal.neg_top, EReal.add_bot]
    · rw [EReal.bot_mul_coe_of_pos hκ, sub_eq_add_neg, EReal.neg_bot]
      by_cases hb : x i = ⊥
      · right; rw [hb, EReal.bot_add]
      · left; rw [add_comm]; exact EReal.top_add_of_ne_bot hb
  have hs : ∀ i, centred x i * centred x i = ⊤ := by
    intro i
    rcases hc i with h | h <;> rw [h]
    · exact EReal.top_mul_top
    · exact EReal.bot_mul_bot
  unfold norm
  rw [Finset.sum_congr rfl fun i _ => hs i, sum_top (n := 3583), eps]
  unfold kap
  rw [EReal.top_mul_coe_of_pos hκ, EReal.top_add_coe, Ideal.rsqrt_top, mul_zero]

/-- A normalised entry is a real of magnitude at most 60. -/
theorem norm_bound (x : Row) (k : Fin 3584) : ∃ z : ℝ, norm x k = (z : EReal) ∧ |z| ≤ 60 := by
  by_cases h : ∃ j, x j = ⊤ ∨ x j = ⊥
  · obtain ⟨j, hj⟩ := h
    exact ⟨0, norm_infinite x hj k, by norm_num⟩
  · push Not at h
    have hx : x = fun j => ((x j).toReal : EReal) := funext fun j => (EReal.coe_toReal (h j).1 (h j).2).symm
    rw [hx]
    exact norm_real _ k

/-! ## A modulated entry and the peak -/

/-- A table entry the precondition admits: a real of magnitude below `2^128`. -/
def Small (a : EReal) : Prop := max a (-a) ≤ Ideal.ofBits .f32 (0x7F7F0000#32)

theorem small_real {a : EReal} (h : Small a) : ∃ z : ℝ, a = (z : EReal) ∧ |z| ≤ (2 : ℝ) ^ (128 : ℤ) := by
  unfold Small at h
  rw [bf16_max] at h
  induction a with
  | bot => rw [EReal.neg_bot, max_eq_right bot_le] at h; exact absurd (top_le_iff.mp h) (EReal.coe_ne_top _)
  | top => rw [EReal.neg_top, max_eq_left bot_le] at h; exact absurd (top_le_iff.mp h) (EReal.coe_ne_top _)
  | coe z =>
    refine ⟨z, rfl, ?_⟩
    rw [← EReal.coe_neg, max_le_iff, EReal.coe_le_coe_iff, EReal.coe_le_coe_iff] at h
    have h2 : (16711680 : ℝ) * 2 ^ (104 : ℤ) ≤ (2 : ℝ) ^ (128 : ℤ) := by norm_num
    exact abs_le.mpr ⟨by linarith [h.2], by linarith [h.1]⟩

theorem hidden_bound {x sc sh : Row} (hsc : ∀ k, Small (sc k)) (hsh : ∀ k, Small (sh k)) (k : Fin 3584) :
    ∃ z : ℝ, hidden x sc sh k = (z : EReal) ∧ |z| ≤ (2 : ℝ) ^ (134 : ℤ) := by
  obtain ⟨n, hn, hn'⟩ := norm_bound x k
  obtain ⟨a, ha, ha'⟩ := small_real (hsc k)
  obtain ⟨b, hb, hb'⟩ := small_real (hsh k)
  refine ⟨n * (1 + a) + b, ?_, ?_⟩
  · unfold hidden
    rw [hn, ha, hb, ← EReal.coe_one, ← EReal.coe_add, ← EReal.coe_mul, ← EReal.coe_add]
  · have h1 : |1 + a| ≤ 1 + (2 : ℝ) ^ (128 : ℤ) := (abs_add_le 1 a).trans (by rw [abs_one]; linarith)
    have h2 : |n * (1 + a)| ≤ 60 * (1 + (2 : ℝ) ^ (128 : ℤ)) := by
      rw [abs_mul]
      exact mul_le_mul hn' h1 (abs_nonneg _) (by norm_num)
    refine (abs_add_le _ _).trans ((add_le_add h2 hb').trans ?_)
    norm_num

/-- The peak of a row of reals of magnitude at most `2^134`. -/
theorem peak_bound {h : Row} (hh : ∀ k, ∃ z : ℝ, h k = (z : EReal) ∧ |z| ≤ (2 : ℝ) ^ (134 : ℤ)) :
    ∃ r : ℝ, peak h = (r : EReal) ∧ 0 ≤ r ∧ r < (2 : ℝ) ^ (126 : ℤ) := by
  choose z hz hz' using hh
  have hmax : ∀ k, max (h k) (-h k) = ((|z k| : ℝ) : EReal) := by
    intro k
    rw [hz k, ← EReal.coe_neg]
    exact (EReal.coe_strictMono.monotone.map_max (a := z k) (b := -z k)).symm
  have hfold : ∃ q : ℝ, Finset.univ.fold max (Ideal.ofBits .f32 (0xFF800000#32)) (fun k => max (h k) (-h k)) = (q : EReal)
      ∧ 0 ≤ q ∧ q ≤ (2 : ℝ) ^ (134 : ℤ) := by
    rw [neg_inf]
    set F := Finset.univ.fold max (⊥ : EReal) (fun k => max (h k) (-h k)) with hF
    have hle : F ≤ (((2 : ℝ) ^ (134 : ℤ) : ℝ) : EReal) := by
      rw [hF, Finset.fold_max_le]
      refine ⟨bot_le, fun k _ => ?_⟩
      show max (h k) (-h k) ≤ _
      rw [hmax k, EReal.coe_le_coe_iff]
      exact hz' k
    have hge : (0 : EReal) ≤ F := by
      rw [hF, Finset.le_fold_max]
      refine Or.inr ⟨0, Finset.mem_univ _, ?_⟩
      rw [hmax 0]
      exact_mod_cast abs_nonneg (z 0)
    have ht : F ≠ ⊤ := fun e => by rw [e, top_le_iff] at hle; exact EReal.coe_ne_top _ hle
    have hb : F ≠ ⊥ := fun e => by rw [e, le_bot_iff] at hge; exact EReal.zero_ne_bot hge
    refine ⟨F.toReal, (EReal.coe_toReal ht hb).symm, ?_, ?_⟩
    · rw [← EReal.coe_le_coe_iff, EReal.coe_toReal ht hb]; exact hge
    · rw [← EReal.coe_le_coe_iff, EReal.coe_toReal ht hb]; exact hle
  obtain ⟨q, hq, hq0, hq1⟩ := hfold
  refine ⟨q * ((9586981 : ℝ) * 2 ^ (-32 : ℤ)), ?_, by positivity, ?_⟩
  · unfold peak
    rw [hq, inv448, ← EReal.coe_mul]
  · calc q * ((9586981 : ℝ) * 2 ^ (-32 : ℤ)) ≤ (2 : ℝ) ^ (134 : ℤ) * ((9586981 : ℝ) * 2 ^ (-32 : ℤ)) :=
          mul_le_mul_of_nonneg_right hq1 (by positivity)
      _ < (2 : ℝ) ^ (126 : ℤ) := by norm_num

/-- **The quantiser's equation**: with admitted modulation rows the kernel's scale and inverse scale of the modulated row
    are the reference's. -/
theorem row_scales {x sc sh : Row} (hsc : ∀ k, Small (sc k)) (hsh : ∀ k, Small (sh k)) :
    kscale (peak (hidden x sc sh)) = rscale (peak (hidden x sc sh))
      ∧ kinv (peak (hidden x sc sh)) = rinv (peak (hidden x sc sh)) := by
  obtain ⟨r, hr, h0, h1⟩ := peak_bound (hidden_bound (x := x) hsc hsh)
  rw [hr]
  exact scales_eq h0 h1

end Cert.Spec

end
-- ==== Proof.Finite.lean ====
module

public import proofs.«01_k».proof.Defs
public import proofs.«01_k».proof.Proof.Gen.Pre_finite
public import proofs.«01_k».proof.Proof.Bound
public import Idealize.ShloMosaic.Lib.ReduceAll
public import Idealize.ShloMosaic.Lib.Pointwise
public import Idealize.ShloMosaic.Lib.Affine

/-! What the precondition says: every entry of the two modulation tables is at most the largest bf16 in magnitude. -/

@[expose] public section

set_option maxRecDepth 16384

noncomputable section

namespace Cert.Finite

open Idealize.ShloMosaic Cert.Pre_finite

/-- One table's test, at an entry. -/
theorem small_of_all (x : FVec Ideal S1x16x3584 .bf16) (j : S_.Idx)
    (h : Host.reduce IntOp.andi
      (cmpf .ole (Host.absf (extf .f32 x Cert.Pre_finite.Gen.facts.bitsLt_bf16_f32))
        (broadcastInDim S1x16x3584 ![] Cert.Pre_finite.Gen.facts.bcast_S_S1x16x3584
          (constant (F := Ideal) S_ .f32 0x7F7F0000#32)))
      (constantI S_ 1 1#1) Cert.Pre_finite.Gen.facts.reducesTo_S1x16x3584_S_d0_1_2 Cert.Pre_finite.Gen.facts.h_S_ j = 1#1)
    (i : S1x16x3584.Idx) : Spec.Small (x i) := by
  haveI : Subsingleton S_.Idx := ⟨fun a b => funext fun k => k.elim0⟩
  have e := Host.reduce_andi_all _ _ _ _ _ h i
  have e' : (if max (x i) (-(x i)) ≤ Ideal.ofBits .f32 (0x7F7F0000#32) then (1#1 : BitVec 1) else 0#1) = 1#1 := by
    refine Eq.trans ?_ e
    generalize hx : (0x7F7F0000#32 : BitVec 32) = w
    pointwise
    change _ = BitVec.ofBool (decide (max (x i) (-(x i)) ≤ Ideal.ofBits .f32 w))
    by_cases hc : max (x i) (-(x i)) ≤ Ideal.ofBits .f32 w
    · rw [if_pos hc, decide_eq_true hc]; rfl
    · rw [if_neg hc, decide_eq_false hc]; rfl
  unfold Spec.Small
  by_contra hc
  rw [if_neg hc] at e'
  exact absurd e' (by decide)

theorem of_fn (x0 : FVec Ideal S1x4096x3584 .bf16) (x1 x2 : FVec Ideal S1x16x3584 .bf16) (x3 : FVec Ideal S1x16x9472 .bf16)
    (x4 : IVec S1x4096 32) (x5 : FVec Ideal S3584x9472 .fp8e4m3) (x6 : FVec Ideal S9472 .f32) (x7 : FVec Ideal S9472 .bf16)
    (h : @Cert.Pre_finite.fn Cert.Pre_finite.Gen.facts Ideal _ x0 x1 x2 x3 x4 x5 x6 x7 = fun _ => 1#1) :
    (∀ i, Spec.Small (x1 i)) ∧ (∀ i, Spec.Small (x2 i)) := by
  have e := congrFun h (fun k => k.elim0)
  dsimp only [Cert.Pre_finite.fn] at e
  obtain ⟨a, b⟩ := IntOp.andi_eq_one.mp e
  exact ⟨small_of_all x1 _ a, small_of_all x2 _ b⟩

end Cert.Finite

end
-- ==== Proof.Equal.lean ====
module

public import proofs.«01_k».proof.Proof.KernelM
public import proofs.«01_k».proof.Proof.RefArray
public import proofs.«01_k».proof.Proof.Finite

/-! The kernel's three result arrays are the reference's, on arguments that agree and meet the precondition. -/

@[expose] public section

set_option maxRecDepth 16384

noncomputable section

namespace Cert.Equal

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments on device `c`. -/
structure Agree (c : Dev KernelIdeal.nD) : Prop where
  x : m' ((c.tc : Thread ReferenceIdeal.nD ReferenceIdeal.τ).loc ReferenceIdeal.main_arg0) =
    m ((c.tc : Thread KernelIdeal.nD KernelIdeal.τ).loc KernelIdeal.main_arg0)
  shift : m' ((c.tc : Thread ReferenceIdeal.nD ReferenceIdeal.τ).loc ReferenceIdeal.main_arg1) =
    m ((c.tc : Thread KernelIdeal.nD KernelIdeal.τ).loc KernelIdeal.main_arg1)
  scale : m' ((c.tc : Thread ReferenceIdeal.nD ReferenceIdeal.τ).loc ReferenceIdeal.main_arg2) =
    m ((c.tc : Thread KernelIdeal.nD KernelIdeal.τ).loc KernelIdeal.main_arg2)
  gate : m' ((c.tc : Thread ReferenceIdeal.nD ReferenceIdeal.τ).loc ReferenceIdeal.main_arg3) =
    m ((c.tc : Thread KernelIdeal.nD KernelIdeal.τ).loc KernelIdeal.main_arg3)
  ids : m' ((c.tc : Thread ReferenceIdeal.nD ReferenceIdeal.τ).loc ReferenceIdeal.main_arg4) =
    m ((c.tc : Thread KernelIdeal.nD KernelIdeal.τ).loc KernelIdeal.main_arg4)
  w : m' ((c.tc : Thread ReferenceIdeal.nD ReferenceIdeal.τ).loc ReferenceIdeal.main_arg5) =
    m ((c.tc : Thread KernelIdeal.nD KernelIdeal.τ).loc KernelIdeal.main_arg5)
  ws : m' ((c.tc : Thread ReferenceIdeal.nD ReferenceIdeal.τ).loc ReferenceIdeal.main_arg6) =
    m ((c.tc : Thread KernelIdeal.nD KernelIdeal.τ).loc KernelIdeal.main_arg6)
  bias : m' ((c.tc : Thread ReferenceIdeal.nD ReferenceIdeal.τ).loc ReferenceIdeal.main_arg7) =
    m ((c.tc : Thread KernelIdeal.nD KernelIdeal.τ).loc KernelIdeal.main_arg7)

variable {m m'} {c : Dev KernelIdeal.nD} (h : Agree m m' c)
  (hshift : ∀ i, Spec.Small (m ((c.tc : Thread KernelIdeal.nD KernelIdeal.τ).loc KernelIdeal.main_arg1) i))
  (hscale : ∀ i, Spec.Small (m ((c.tc : Thread KernelIdeal.nD KernelIdeal.τ).loc KernelIdeal.main_arg2) i))

include h

theorem hid (i : Fin 4096) : ReferenceIdeal.Array.hid m' c i = KernelIdeal.Array.hid m c i := by
  unfold ReferenceIdeal.Array.hid KernelIdeal.Array.hid
  rw [h.x, h.shift, h.scale, h.ids]

include hshift hscale

/-- The bits-of-an-exponent scale is the power of two the logarithm names. -/
theorem rows (i : Fin 4096) :
    Spec.kscale (Spec.peak (KernelIdeal.Array.hid m c i)) = Spec.rscale (Spec.peak (KernelIdeal.Array.hid m c i)) ∧
    Spec.kinv (Spec.peak (KernelIdeal.Array.hid m c i)) = Spec.rinv (Spec.peak (KernelIdeal.Array.hid m c i)) :=
  Spec.row_scales (fun k => hscale _) (fun k => hshift _)

theorem scaleOf (i : Fin 4096) : ReferenceIdeal.Array.scaleOf m' c i = KernelIdeal.Array.scaleOf m c i := by
  unfold ReferenceIdeal.Array.scaleOf KernelIdeal.Array.scaleOf
  rw [hid h, (rows h hshift hscale i).1]

theorem codeOf (i : Fin 4096) : ReferenceIdeal.Array.codeOf m' c i = KernelIdeal.Array.codeOf m c i := by
  funext k
  unfold ReferenceIdeal.Array.codeOf KernelIdeal.Array.codeOf
  rw [hid h, (rows h hshift hscale i).2]

theorem scales : ReferenceIdeal.Array.scalesR m' c = KernelIdeal.Array.scalesK m c :=
  funext fun z => scaleOf h hshift hscale (z 0)

theorem codes : ReferenceIdeal.Array.codesR m' c = KernelIdeal.Array.codesK m c :=
  funext fun z => congrFun (codeOf h hshift hscale (z 0)) (z 1)

theorem outOf (i : Fin 4096) (k : Fin 9472) : ReferenceIdeal.Array.outOf m' c i k = KernelIdeal.Array.outOf m c i k := by
  unfold ReferenceIdeal.Array.outOf KernelIdeal.Array.outOf
  rw [codeOf h hshift hscale, scaleOf h hshift hscale, h.w, h.ws, h.bias, h.gate, h.ids]

theorem out : ReferenceIdeal.Array.outR m' c = KernelIdeal.Array.outK m c :=
  funext fun z => outOf h hshift hscale (z 0) (z 1)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.ReferenceIdeal.Value
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel and the reference end with equal results. -/
theorem algebraic : @Cert.algebraic_KernelIdeal_ReferenceIdeal_pre_finite Cert.KernelIdeal.Gen.facts
    Cert.ReferenceIdeal.Gen.facts Cert.Pre_finite.Gen.facts := by
  intro m g m' g' hpre hagree
  have hs := fun c => Cert.Finite.of_fn _ _ _ _ _ _ _ _ (hpre c)
  have ha : ∀ c, Cert.Equal.Agree m m' c := fun c =>
    let ⟨a0, a1, a2, a3, a4, a5, a6, a7⟩ := hagree c
    ⟨a0, a1, a2, a3, a4, a5, a6, a7⟩
  refine ⟨fun c => Cert.KernelIdeal.Array.outK m c, fun c => Cert.KernelIdeal.Array.codesK m c,
    fun c => Cert.KernelIdeal.Array.scalesK m c, Cert.KernelIdeal.Array.run m g, ?_⟩
  refine (θ_run Cert.ReferenceIdeal.defs _ _).mono (fun r h c => ?_) (Cert.ReferenceIdeal.Value.run_blocks (F := Ideal) m' g')
  obtain ⟨h0, h1, h2, hk⟩ := h c
  exact ⟨h0.trans ((Cert.ReferenceIdeal.Array.out_arr m' c).trans (Cert.Equal.out (ha c) (hs c).1 (hs c).2)),
    h1.trans ((Cert.ReferenceIdeal.Array.codes_arr m' c).trans (Cert.Equal.codes (ha c) (hs c).1 (hs c).2)),
    h2.trans ((Cert.ReferenceIdeal.Array.scales_arr m' c).trans (Cert.Equal.scales (ha c) (hs c).1 (hs c).2)), hk⟩

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "inv_d" .f32 0x39924925#32 ((1 / 3584 : ℝ) : EReal) rfl,
    algebraic⟩

end Cert.Proof

end
